-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![4096, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![4096, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S4096x256 : Shape := ⟨2, ![4096, 256]⟩
abbrev S3 : Shape := ⟨1, ![3]⟩
abbrev S_ : Shape := ⟨0, ![]⟩
abbrev S1 : Shape := ⟨1, ![1]⟩
abbrev S4095x256 : Shape := ⟨2, ![4095, 256]⟩
abbrev S1x256 : Shape := ⟨2, ![1, 256]⟩
abbrev S4094x256 : Shape := ⟨2, ![4094, 256]⟩
abbrev S2x256 : Shape := ⟨2, ![2, 256]⟩
abbrev S4092x256 : Shape := ⟨2, ![4092, 256]⟩
abbrev S4x256 : Shape := ⟨2, ![4, 256]⟩
abbrev S4088x256 : Shape := ⟨2, ![4088, 256]⟩
abbrev S8x256 : Shape := ⟨2, ![8, 256]⟩
abbrev S4080x256 : Shape := ⟨2, ![4080, 256]⟩
abbrev S16x256 : Shape := ⟨2, ![16, 256]⟩
abbrev S4064x256 : Shape := ⟨2, ![4064, 256]⟩
abbrev S32x256 : Shape := ⟨2, ![32, 256]⟩
abbrev S4032x256 : Shape := ⟨2, ![4032, 256]⟩
abbrev S64x256 : Shape := ⟨2, ![64, 256]⟩
abbrev S3968x256 : Shape := ⟨2, ![3968, 256]⟩
abbrev S128x256 : Shape := ⟨2, ![128, 256]⟩
abbrev S3840x256 : Shape := ⟨2, ![3840, 256]⟩
abbrev S256x256 : Shape := ⟨2, ![256, 256]⟩
abbrev S3584x256 : Shape := ⟨2, ![3584, 256]⟩
abbrev S512x256 : Shape := ⟨2, ![512, 256]⟩
abbrev S3072x256 : Shape := ⟨2, ![3072, 256]⟩
abbrev S2048x256 : Shape := ⟨2, ![2048, 256]⟩

abbrev nBuf : Space → Nat
  | .hbm => 2
  | .vmem => 3
  | .smem => 0
  | _ => 0

abbrev bufTy : (tb : Table) → Fin (tcTables nBuf tb) → BufTy
  | .hbm, ⟨0, _⟩ => ⟨S1024x256, .bf16⟩
  | .hbm, ⟨1, _⟩ => ⟨S1024x256, .f32⟩
  | .local _ .vmem, ⟨0, _⟩ => ⟨S1024x256, .bf16⟩
  | .local _ .vmem, ⟨1, _⟩ => ⟨S1024x256, .f32⟩
  | .local _ .vmem, ⟨2, _⟩ => ⟨S4096x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v32 : BitVec 32 := Scalar.muli v2 c1024_i32
  let v33 : Index := Scalar.indexCast v32
  let c0_20 : Index := 0#32
  ![v33.toNat, 0]
def k0_off2 (d0 : Dev nD) (c0_i32_21 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v37 : BitVec 32 := Scalar.subi v2 c0_i32_21
  let c4_i32_22 : BitVec 32 := 4#32
  let c0_i32_23 : BitVec 32 := 0#32
  let v38 : BitVec 1 := Scalar.cmpi .eq c4_i32_22 c0_i32_23
  let c1_i32_24 : BitVec 32 := 1#32
  let v39 : BitVec 32 := Scalar.select v38 c1_i32_24 c4_i32_22
  let v40 : BitVec 32 := Scalar.remsi v37 v39
  let c0_i32_26 : BitVec 32 := 0#32
  let v42 : BitVec 1 := Scalar.cmpi .slt v40 c0_i32_26
  let c0_i32_27 : BitVec 32 := 0#32
  let v43 : BitVec 1 := Scalar.cmpi .slt v39 c0_i32_27
  let v44 : BitVec 1 := Scalar.xori v42 v43
  let c0_i32_25 : BitVec 32 := 0#32
  let v41 : BitVec 1 := Scalar.cmpi .ne v40 c0_i32_25
  let v45 : BitVec 1 := Scalar.andi v44 v41
  let v46 : BitVec 32 := Scalar.addi v40 v39
  let v47 : BitVec 32 := Scalar.select v45 v46 v40
  let c1024_i32_29 : BitVec 32 := 1024#32
  let v49 : BitVec 32 := Scalar.muli v47 c1024_i32_29
  let c0_i32_34 : BitVec 32 := 0#32
  ![v49.toNat, 0]
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v50 : BitVec 32 := Scalar.muli v24 c1_i32_32
  let v51 : BitVec 32 := Scalar.addi c0_i32_33 v50
  v51.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_58 : BitVec 32 := 1#32
  let v81 : BitVec 32 := Scalar.muli v24 c1_i32_58
  let v82 : BitVec 32 := Scalar.addi c0_i32_59 v81
  v82.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_84 : BitVec 32 := 1#32
  let v112 : BitVec 32 := Scalar.muli v24 c1_i32_84
  let v113 : BitVec 32 := Scalar.addi c0_i32_85 v112
  v113.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x256, .f32⟩
  | .hbm, ⟨2, _⟩ => ⟨S4096x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Stages.lean ====
/-
# The kernel's sorting network, stage by stage

The kernel sorts the 4096 gathered rows of every column by a bitonic network of 78 stages. A stage at distance `j`
and run length `k` reads, at row `i`, the row's partner `i xor j` — the row `j` below or above, brought there by
one of two rolls of the whole array — and keeps the lesser or the greater of the two entries by the bits `j` and
`k` of the row number. This module spells a stage the way the kernel computes it, and the network from the stages.
-/
module

public import proofs.«01_k».proof.Proof.Gen.KernelIdeal.Skeleton

@[expose] public section

noncomputable section

namespace Cert.RingSort

open Cert.KernelIdeal Cert.KernelIdeal.Gen
open Idealize.ShloMosaic Idealize.SL.Sem

variable {F : FTy → Type} [FloatOps F]

/-- The gathered array: 4096 rows of 256 columns. -/
abbrev Arr (F : FTy → Type) [FloatOps F] : Type := FVec F S4096x256 .bf16

/-- Every element's row number, as a word. -/
abbrev rows : IVec S4096x256 32 := iota .tc S4096x256 32 [0] iota_S4096x256_d0_w32

/-- Where bit `j` of the row number is set. -/
abbrev bitSet (j : BitVec 32) : IVec S4096x256 1 :=
  cmpi .ne (andi rows (broadcast S4096x256 j)) (broadcast S4096x256 0#32)

/-- Where bit `k` of the row number is clear: the runs that ascend. -/
abbrev bitClear (k : BitVec 32) : IVec S4096x256 1 :=
  cmpi .eq (andi rows (broadcast S4096x256 k)) (broadcast S4096x256 0#32)

/-- One compare-exchange stage, given the array rolled up and down by its distance. -/
def exchange (j k : BitVec 32) (up dn x : Arr F) : Arr F :=
  select (xori (bitSet j) (bitClear k)) (minimumf x (select (bitSet j) up dn)) (maximumf x (select (bitSet j) up dn))

/-! ## The rolls: by `j` rows up (row `i` reads row `i + j`) and down (row `i` reads row `i - j`) -/

def dn1 (x : Arr F) : Arr F :=
  concatenate S4096x256 0 [⟨S4095x256, extractStridedSlice S4095x256 ![1, 0] x slices_S4096x256_o1_0_S4095x256⟩,
    ⟨S1x256, extractStridedSlice S1x256 ![0, 0] x slices_S4096x256_o0_0_S1x256⟩] concatenates_S4095x256_S1x256_S4096x256_d0
def up1 (x : Arr F) : Arr F :=
  concatenate S4096x256 0 [⟨S1x256, extractStridedSlice S1x256 ![4095, 0] x slices_S4096x256_o4095_0_S1x256⟩,
    ⟨S4095x256, extractStridedSlice S4095x256 ![0, 0] x slices_S4096x256_o0_0_S4095x256⟩] concatenates_S1x256_S4095x256_S4096x256_d0
def dn2 (x : Arr F) : Arr F :=
  concatenate S4096x256 0 [⟨S4094x256, extractStridedSlice S4094x256 ![2, 0] x slices_S4096x256_o2_0_S4094x256⟩,
    ⟨S2x256, extractStridedSlice S2x256 ![0, 0] x slices_S4096x256_o0_0_S2x256⟩] concatenates_S4094x256_S2x256_S4096x256_d0
def up2 (x : Arr F) : Arr F :=
  concatenate S4096x256 0 [⟨S2x256, extractStridedSlice S2x256 ![4094, 0] x slices_S4096x256_o4094_0_S2x256⟩,
    ⟨S4094x256, extractStridedSlice S4094x256 ![0, 0] x slices_S4096x256_o0_0_S4094x256⟩] concatenates_S2x256_S4094x256_S4096x256_d0
def dn4 (x : Arr F) : Arr F :=
  concatenate S4096x256 0 [⟨S4092x256, extractStridedSlice S4092x256 ![4, 0] x slices_S4096x256_o4_0_S4092x256⟩,
    ⟨S4x256, extractStridedSlice S4x256 ![0, 0] x slices_S4096x256_o0_0_S4x256⟩] concatenates_S4092x256_S4x256_S4096x256_d0
def up4 (x : Arr F) : Arr F :=
  concatenate S4096x256 0 [⟨S4x256, extractStridedSlice S4x256 ![4092, 0] x slices_S4096x256_o4092_0_S4x256⟩,
    ⟨S4092x256, extractStridedSlice S4092x256 ![0, 0] x slices_S4096x256_o0_0_S4092x256⟩] concatenates_S4x256_S4092x256_S4096x256_d0
def dn8 (x : Arr F) : Arr F :=
  concatenate S4096x256 0 [⟨S4088x256, extractStridedSlice S4088x256 ![8, 0] x slices_S4096x256_o8_0_S4088x256⟩,
    ⟨S8x256, extractStridedSlice S8x256 ![0, 0] x slices_S4096x256_o0_0_S8x256⟩] concatenates_S4088x256_S8x256_S4096x256_d0
def up8 (x : Arr F) : Arr F :=
  concatenate S4096x256 0 [⟨S8x256, extractStridedSlice S8x256 ![4088, 0] x slices_S4096x256_o4088_0_S8x256⟩,
    ⟨S4088x256, extractStridedSlice S4088x256 ![0, 0] x slices_S4096x256_o0_0_S4088x256⟩] concatenates_S8x256_S4088x256_S4096x256_d0
def dn16 (x : Arr F) : Arr F :=
  concatenate S4096x256 0 [⟨S4080x256, extractStridedSlice S4080x256 ![16, 0] x slices_S4096x256_o16_0_S4080x256⟩,
    ⟨S16x256, extractStridedSlice S16x256 ![0, 0] x slices_S4096x256_o0_0_S16x256⟩] concatenates_S4080x256_S16x256_S4096x256_d0
def up16 (x : Arr F) : Arr F :=
  concatenate S4096x256 0 [⟨S16x256, extractStridedSlice S16x256 ![4080, 0] x slices_S4096x256_o4080_0_S16x256⟩,
    ⟨S4080x256, extractStridedSlice S4080x256 ![0, 0] x slices_S4096x256_o0_0_S4080x256⟩] concatenates_S16x256_S4080x256_S4096x256_d0
def dn32 (x : Arr F) : Arr F :=
  concatenate S4096x256 0 [⟨S4064x256, extractStridedSlice S4064x256 ![32, 0] x slices_S4096x256_o32_0_S4064x256⟩,
    ⟨S32x256, extractStridedSlice S32x256 ![0, 0] x slices_S4096x256_o0_0_S32x256⟩] concatenates_S4064x256_S32x256_S4096x256_d0
def up32 (x : Arr F) : Arr F :=
  concatenate S4096x256 0 [⟨S32x256, extractStridedSlice S32x256 ![4064, 0] x slices_S4096x256_o4064_0_S32x256⟩,
    ⟨S4064x256, extractStridedSlice S4064x256 ![0, 0] x slices_S4096x256_o0_0_S4064x256⟩] concatenates_S32x256_S4064x256_S4096x256_d0
def dn64 (x : Arr F) : Arr F :=
  concatenate S4096x256 0 [⟨S4032x256, extractStridedSlice S4032x256 ![64, 0] x slices_S4096x256_o64_0_S4032x256⟩,
    ⟨S64x256, extractStridedSlice S64x256 ![0, 0] x slices_S4096x256_o0_0_S64x256⟩] concatenates_S4032x256_S64x256_S4096x256_d0
def up64 (x : Arr F) : Arr F :=
  concatenate S4096x256 0 [⟨S64x256, extractStridedSlice S64x256 ![4032, 0] x slices_S4096x256_o4032_0_S64x256⟩,
    ⟨S4032x256, extractStridedSlice S4032x256 ![0, 0] x slices_S4096x256_o0_0_S4032x256⟩] concatenates_S64x256_S4032x256_S4096x256_d0
def dn128 (x : Arr F) : Arr F :=
  concatenate S4096x256 0 [⟨S3968x256, extractStridedSlice S3968x256 ![128, 0] x slices_S4096x256_o128_0_S3968x256⟩,
    ⟨S128x256, extractStridedSlice S128x256 ![0, 0] x slices_S4096x256_o0_0_S128x256⟩] concatenates_S3968x256_S128x256_S4096x256_d0
def up128 (x : Arr F) : Arr F :=
  concatenate S4096x256 0 [⟨S128x256, extractStridedSlice S128x256 ![3968, 0] x slices_S4096x256_o3968_0_S128x256⟩,
    ⟨S3968x256, extractStridedSlice S3968x256 ![0, 0] x slices_S4096x256_o0_0_S3968x256⟩] concatenates_S128x256_S3968x256_S4096x256_d0
def dn256 (x : Arr F) : Arr F :=
  concatenate S4096x256 0 [⟨S3840x256, extractStridedSlice S3840x256 ![256, 0] x slices_S4096x256_o256_0_S3840x256⟩,
    ⟨S256x256, extractStridedSlice S256x256 ![0, 0] x slices_S4096x256_o0_0_S256x256⟩] concatenates_S3840x256_S256x256_S4096x256_d0
def up256 (x : Arr F) : Arr F :=
  concatenate S4096x256 0 [⟨S256x256, extractStridedSlice S256x256 ![3840, 0] x slices_S4096x256_o3840_0_S256x256⟩,
    ⟨S3840x256, extractStridedSlice S3840x256 ![0, 0] x slices_S4096x256_o0_0_S3840x256⟩] concatenates_S256x256_S3840x256_S4096x256_d0
def dn512 (x : Arr F) : Arr F :=
  concatenate S4096x256 0 [⟨S3584x256, extractStridedSlice S3584x256 ![512, 0] x slices_S4096x256_o512_0_S3584x256⟩,
    ⟨S512x256, extractStridedSlice S512x256 ![0, 0] x slices_S4096x256_o0_0_S512x256⟩] concatenates_S3584x256_S512x256_S4096x256_d0
def up512 (x : Arr F) : Arr F :=
  concatenate S4096x256 0 [⟨S512x256, extractStridedSlice S512x256 ![3584, 0] x slices_S4096x256_o3584_0_S512x256⟩,
    ⟨S3584x256, extractStridedSlice S3584x256 ![0, 0] x slices_S4096x256_o0_0_S3584x256⟩] concatenates_S512x256_S3584x256_S4096x256_d0
def dn1024 (x : Arr F) : Arr F :=
  concatenate S4096x256 0 [⟨S3072x256, extractStridedSlice S3072x256 ![1024, 0] x slices_S4096x256_o1024_0_S3072x256⟩,
    ⟨S1024x256, extractStridedSlice S1024x256 ![0, 0] x slices_S4096x256_o0_0_S1024x256⟩] concatenates_S3072x256_S1024x256_S4096x256_d0
def up1024 (x : Arr F) : Arr F :=
  concatenate S4096x256 0 [⟨S1024x256, extractStridedSlice S1024x256 ![3072, 0] x slices_S4096x256_o3072_0_S1024x256⟩,
    ⟨S3072x256, extractStridedSlice S3072x256 ![0, 0] x slices_S4096x256_o0_0_S3072x256⟩] concatenates_S1024x256_S3072x256_S4096x256_d0
def dn2048 (x : Arr F) : Arr F :=
  concatenate S4096x256 0 [⟨S2048x256, extractStridedSlice S2048x256 ![2048, 0] x slices_S4096x256_o2048_0_S2048x256⟩,
    ⟨S2048x256, extractStridedSlice S2048x256 ![0, 0] x slices_S4096x256_o0_0_S2048x256⟩] concatenates_S2048x256_S2048x256_S4096x256_d0
def up2048 (x : Arr F) : Arr F :=
  concatenate S4096x256 0 [⟨S2048x256, extractStridedSlice S2048x256 ![2048, 0] x slices_S4096x256_o2048_0_S2048x256⟩,
    ⟨S2048x256, extractStridedSlice S2048x256 ![0, 0] x slices_S4096x256_o0_0_S2048x256⟩] concatenates_S2048x256_S2048x256_S4096x256_d0

/-! ## The stages at each distance -/

def st1 (k : BitVec 32) (x : Arr F) : Arr F := exchange 1#32 k (up1 x) (dn1 x) x
def st2 (k : BitVec 32) (x : Arr F) : Arr F := exchange 2#32 k (up2 x) (dn2 x) x
def st4 (k : BitVec 32) (x : Arr F) : Arr F := exchange 4#32 k (up4 x) (dn4 x) x
def st8 (k : BitVec 32) (x : Arr F) : Arr F := exchange 8#32 k (up8 x) (dn8 x) x
def st16 (k : BitVec 32) (x : Arr F) : Arr F := exchange 16#32 k (up16 x) (dn16 x) x
def st32 (k : BitVec 32) (x : Arr F) : Arr F := exchange 32#32 k (up32 x) (dn32 x) x
def st64 (k : BitVec 32) (x : Arr F) : Arr F := exchange 64#32 k (up64 x) (dn64 x) x
def st128 (k : BitVec 32) (x : Arr F) : Arr F := exchange 128#32 k (up128 x) (dn128 x) x
def st256 (k : BitVec 32) (x : Arr F) : Arr F := exchange 256#32 k (up256 x) (dn256 x) x
def st512 (k : BitVec 32) (x : Arr F) : Arr F := exchange 512#32 k (up512 x) (dn512 x) x
def st1024 (k : BitVec 32) (x : Arr F) : Arr F := exchange 1024#32 k (up1024 x) (dn1024 x) x
def st2048 (k : BitVec 32) (x : Arr F) : Arr F := exchange 2048#32 k (up2048 x) (dn2048 x) x

/-! ## The merges: the stages of one run length, at halving distances -/

def merge2 (x : Arr F) : Arr F := st1 2#32 x
def merge4 (x : Arr F) : Arr F := st1 4#32 (st2 4#32 x)
def merge8 (x : Arr F) : Arr F := st1 8#32 (st2 8#32 (st4 8#32 x))
def merge16 (x : Arr F) : Arr F := st1 16#32 (st2 16#32 (st4 16#32 (st8 16#32 x)))
def merge32 (x : Arr F) : Arr F := st1 32#32 (st2 32#32 (st4 32#32 (st8 32#32 (st16 32#32 x))))
def merge64 (x : Arr F) : Arr F := st1 64#32 (st2 64#32 (st4 64#32 (st8 64#32 (st16 64#32 (st32 64#32 x)))))
def merge128 (x : Arr F) : Arr F := st1 128#32 (st2 128#32 (st4 128#32 (st8 128#32 (st16 128#32 (st32 128#32 (st64 128#32 x))))))
def merge256 (x : Arr F) : Arr F := st1 256#32 (st2 256#32 (st4 256#32 (st8 256#32 (st16 256#32 (st32 256#32 (st64 256#32 (st128 256#32 x)))))))
def merge512 (x : Arr F) : Arr F := st1 512#32 (st2 512#32 (st4 512#32 (st8 512#32 (st16 512#32 (st32 512#32 (st64 512#32 (st128 512#32 (st256 512#32 x))))))))
def merge1024 (x : Arr F) : Arr F := st1 1024#32 (st2 1024#32 (st4 1024#32 (st8 1024#32 (st16 1024#32 (st32 1024#32 (st64 1024#32 (st128 1024#32 (st256 1024#32 (st512 1024#32 x)))))))))
def merge2048 (x : Arr F) : Arr F := st1 2048#32 (st2 2048#32 (st4 2048#32 (st8 2048#32 (st16 2048#32 (st32 2048#32 (st64 2048#32 (st128 2048#32 (st256 2048#32 (st512 2048#32 (st1024 2048#32 x))))))))))
def merge4096 (x : Arr F) : Arr F := st1 4096#32 (st2 4096#32 (st4 4096#32 (st8 4096#32 (st16 4096#32 (st32 4096#32 (st64 4096#32 (st128 4096#32 (st256 4096#32 (st512 4096#32 (st1024 4096#32 (st2048 4096#32 x)))))))))))

/-- The whole network: run lengths 2, 4, …, 4096. -/
def network (x : Arr F) : Arr F :=
  merge4096 (merge2048 (merge1024 (merge512 (merge256 (merge128 (merge64 (merge32 (merge16 (merge8 (merge4 (merge2 x)))))))))))

end Cert.RingSort

end
-- ==== Proof.Compact.lean ====
/-
# The kernel's body with its network named

The printed body is thirty-five parts, of which all but the first five compute the bitonic
network. Here the body is written with that network as one value, `network`, of the array the device read after
its gather. The two are the same program by unfolding.
-/
module

public import proofs.«01_k».proof.Proof.Stages

@[expose] public section

noncomputable section

namespace Cert.RingSort

open Cert.KernelIdeal Cert.KernelIdeal.Gen
open Idealize.ShloMosaic Idealize.SL.Sem

variable {F : FTy → Type} [FloatOps F]

/-- The kernel's body: the gather, then the array read whole, sorted, stored whole, and the device's own block
    of it written out. -/
def sortBody (arg0 : Memref sig .tc .vmem S1024x256 .bf16) (harg0 : arg0.IsWhole) (arg1 : Memref sig .tc .vmem S1024x256 .f32) (harg1 : arg1.IsWhole) (arg2 : Memref sig .tc .vmem S4096x256 .bf16) (harg2 : arg2.IsWhole) (arg3 : DmaSems sig S3) (arg4 : DmaSems sig S3) :
    Prog (TpuEff nD τ sig (Elt F) Λ₀ .tc) PUnit := do
  let ⟨d0, v2, v24⟩ : Σ' (d0 : Dev nD) (v2 : BitVec 32), BitVec 32 ← k0_part1 arg0 harg0 arg1 harg1 arg2 harg2 arg3 arg4
  let c1_i32_43 : BitVec 32 ← k0_part2 arg0 harg0 arg1 harg1 arg2 harg2 arg3 arg4 d0 v2 v24
  let c1_i32_69 : BitVec 32 ← k0_part3 arg0 harg0 arg1 harg1 arg2 harg2 arg3 arg4 d0 v2 v24 c1_i32_43
  let c1_i32_95 : BitVec 32 ← k0_part4 arg0 harg0 arg1 harg1 arg2 harg2 arg3 arg4 d0 v2 v24 c1_i32_69
  let v126 : DmaSems sig S1 := arg4.slice (Rect.unit (s := S3) ![2] S1.size inb_S3_S1_2)
  let v127 : DmaSems sig S_ := v126.squeeze S_ squeezes_S1_S_
  let v128 : Memref sig .tc .vmem S1024x256 .bf16 := arg2.slice (Rect.unit (s := S4096x256) (k0_off2 d0 2#32) S1024x256.size (k0_off2_inb d0 2)) (fun _ => rfl)
  let v129 : Memref sig .tc .vmem S1024x256 .bf16 := arg2.slice (Rect.unit (s := S4096x256) (k0_off2 d0 2#32) S1024x256.size (k0_off2_inb d0 2)) (fun _ => rfl)
  Prog.lift (.waitDma2 v127.sem v129 v128 (harg2.wordExact_slice rfl _ (k0_off2_wordsbf16 d0 2)) (harg2.wordExact_slice rfl _ (k0_off2_wordsbf16 d0 2)))
  let v130 : Vec F S4096x256 .bf16 ← Prog.lift (.load arg2 (Rect.unit (s := S4096x256) ![0, 0] S4096x256.size inb_S4096x256_S4096x256_0_0).toLoadRect (View.loadsAt_vmem h_S4096x256))
  let v1614 : Vec F S4096x256 .bf16 ← Prog.lift (.load arg2 (Rect.unit (s := S4096x256) ![0, 0] S4096x256.size inb_S4096x256_S4096x256_0_0).toLoadRect (View.loadsAt_vmem h_S4096x256))
  Prog.lift (.store arg2 (Rect.unit (s := S4096x256) ![0, 0] S4096x256.size inb_S4096x256_S4096x256_0_0) (shapeCast S4096x256 (network v130) shapeCasts_S4096x256_S4096x256) Finset.univ (View.stores_vmem h_S4096x256 (harg2.storeExact_slice rfl _ packedbf16_S4096x256_S4096x256_0_0) (fun _ => rfl)) (.inl rfl))
  let v1619 : Vec F S1024x256 .bf16 ← Prog.lift (.load arg2 (Rect.unit (s := S4096x256) (k0_off1 d0) S1024x256.size (k0_off1_inb d0)).toLoadRect (View.loadsAt_vmem h_S1024x256))
  let v1621 : Vec F S1024x256 .f32 ← Prog.lift (.load arg1 (Rect.unit (s := S1024x256) ![0, 0] S1024x256.size inb_S1024x256_S1024x256_0_0).toLoadRect (View.loadsAt_vmem h_S1024x256))
  Prog.lift (.store arg1 (Rect.unit (s := S1024x256) ![0, 0] S1024x256.size inb_S1024x256_S1024x256_0_0) (k0_pay2 v1619) Finset.univ (View.stores_vmem_bits_univ h_S1024x256 rfl) (.inl rfl))
  pure ⟨⟩

set_option maxRecDepth 65536 in
/-- The printed body is the one with the network named. -/
theorem body_eq : cc0_body (F := F) = sortBody (F := F) := rfl

end Cert.RingSort

end
-- ==== Proof.Net.lean ====
/-
# The kernel's network, column by column, is Batcher's bitonic sort

At the extended reals a stage of the kernel acts on every column by itself, and on a column of 4096 entries it is the
stage of the bitonic network at the same distance and run length: the two rolls bring every row its partner, and the
two bits of the row number choose the lesser or the greater entry. So the kernel's network sorts every column.
-/
module

public import proofs.«01_k».proof.Proof.Stages
public import Idealize.ShloMosaic.Lib.SortNet.Sorts
public import Idealize.ShloMosaic.Lib.Pipeline.Value
public import Idealize.ShloMosaic.PureOps.Ideal.Laws

@[expose] public section

noncomputable section

namespace Cert.RingSort

open Cert.KernelIdeal Cert.KernelIdeal.Gen
open Idealize.ShloMosaic Idealize.ShloMosaic.SortNet Idealize.SL.Sem

/-- The index of row `i`, column `q`. -/
def at2 {a : Nat} (i : Fin a) (q : Fin 256) : (⟨2, ![a, 256]⟩ : Shape).Idx := fun d => match d with
  | ⟨0, _⟩ => i
  | ⟨1, _⟩ => q

/-- Column `q` of an array of 4096 rows. -/
def col {α : Type} (x : S4096x256.Idx → α) (q : Fin 256) : Fin (2 ^ 12) → α := fun i => x (at2 (a := 4096) i q)

/-! ## What the rolls read -/

section rolls

variable {α : Type}

/-- The first piece of a roll: rows from `j` on, put first. -/
theorem roll_first {a b j : Nat} (hs : S4096x256.Slices ![j, 0] ⟨2, ![a, 256]⟩) (hs' : S4096x256.Slices ![0, 0] ⟨2, ![b, 256]⟩)
    (hc : Shape.Concatenates [(⟨2, ![a, 256]⟩ : Shape), ⟨2, ![b, 256]⟩] S4096x256 0) (x : S4096x256.Idx → α)
    (i : Fin 4096) (q : Fin 256) (hi : i.val < a) (hk : i.val + j < 4096) :
    concatenate S4096x256 0 [⟨⟨2, ![a, 256]⟩, extractStridedSlice ⟨2, ![a, 256]⟩ ![j, 0] x hs⟩,
      ⟨⟨2, ![b, 256]⟩, extractStridedSlice ⟨2, ![b, 256]⟩ ![0, 0] x hs'⟩] hc (at2 i q) = x (at2 ⟨i.val + j, hk⟩ q) := by
  rw [concatenate_pair_apply_left 0 _ _ hc (at2 i q) rfl (at2 ⟨i.val, hi⟩ q) (fun d => by fin_cases d <;> rfl)]
  exact extractStridedSlice_apply _ x hs _ _ (fun d => by
    fin_cases d
    · exact Nat.add_comm i.val j
    · exact (Nat.zero_add q.val).symm)

/-- The second piece of a roll: rows from `0` on, put after the last `j`. -/
theorem roll_second {a b o : Nat} (hs : S4096x256.Slices ![o, 0] ⟨2, ![b, 256]⟩) (hs' : S4096x256.Slices ![0, 0] ⟨2, ![a, 256]⟩)
    (hc : Shape.Concatenates [(⟨2, ![b, 256]⟩ : Shape), ⟨2, ![a, 256]⟩] S4096x256 0) (x : S4096x256.Idx → α)
    (i : Fin 4096) (q : Fin 256) (hb : b ≤ i.val) (ha : i.val - b < a) (hk : i.val - b < 4096) :
    concatenate S4096x256 0 [⟨⟨2, ![b, 256]⟩, extractStridedSlice ⟨2, ![b, 256]⟩ ![o, 0] x hs⟩,
      ⟨⟨2, ![a, 256]⟩, extractStridedSlice ⟨2, ![a, 256]⟩ ![0, 0] x hs'⟩] hc (at2 i q) = x (at2 ⟨i.val - b, hk⟩ q) := by
  rw [concatenate_pair_apply_right 0 _ _ hc (at2 i q) rfl rfl (at2 ⟨i.val - b, ha⟩ q)
    (fun d hd => by fin_cases d; exact absurd rfl hd; rfl) (Nat.sub_add_cancel hb)]
  exact extractStridedSlice_apply _ x hs' _ _ (fun d => by
    fin_cases d
    · exact (Nat.zero_add _).symm
    · exact (Nat.zero_add q.val).symm)

end rolls

/-! ## One stage -/

/-- `up` and `dn` bring row `i` the rows `2 ^ s` below and above it, where those exist. -/
structure Rolls {F : FTy → Type} [FloatOps F] (s : Nat) (up dn x : Arr F) : Prop where
  below : ∀ (i : Fin 4096) (q : Fin 256) (_ : 2 ^ s ≤ i.val) (hk : i.val - 2 ^ s < 4096), up (at2 i q) = x (at2 ⟨i.val - 2 ^ s, hk⟩ q)
  above : ∀ (i : Fin 4096) (q : Fin 256) (hk : i.val + 2 ^ s < 4096), dn (at2 i q) = x (at2 ⟨i.val + 2 ^ s, hk⟩ q)

/-- A word's bit test on numbers. -/
theorem word_and_eq_zero_iff (n m : Nat) (hn : n < 2 ^ 32) (hm : m < 2 ^ 32) :
    BitVec.ofNat 32 n &&& BitVec.ofNat 32 m = 0#32 ↔ n &&& m = 0 := by
  rw [← BitVec.toNat_inj, BitVec.toNat_and, BitVec.toNat_ofNat, BitVec.toNat_ofNat, Nat.mod_eq_of_lt hn, Nat.mod_eq_of_lt hm]
  rfl

/-- The row number's word at an index. -/
theorem rows_at (i : Fin 4096) (q : Fin 256) : rows (at2 i q) = BitVec.ofNat 32 i.val := by
  show BitVec.ofNat 32 (0 * 4096 + i.val) = _
  rw [Nat.zero_mul, Nat.zero_add]

theorem bitSet_at (m : Nat) (hm : m < 2 ^ 32) (i : Fin 4096) (q : Fin 256) :
    bitSet (BitVec.ofNat 32 m) (at2 i q) = BitVec.ofBool (decide (i.val &&& m ≠ 0)) := by
  show BitVec.ofBool ((rows (at2 i q) &&& BitVec.ofNat 32 m) != 0#32) = _
  rw [rows_at]
  have h := word_and_eq_zero_iff i.val m (by have := i.isLt; omega) hm
  by_cases e : i.val &&& m = 0
  · rw [h.mpr e, e]; rfl
  · rw [decide_eq_true e, bne_iff_ne.mpr fun q => e (h.mp q)]

theorem bitClear_at (m : Nat) (hm : m < 2 ^ 32) (i : Fin 4096) (q : Fin 256) :
    bitClear (BitVec.ofNat 32 m) (at2 i q) = BitVec.ofBool (decide (i.val &&& m = 0)) := by
  show BitVec.ofBool ((rows (at2 i q) &&& BitVec.ofNat 32 m) == 0#32) = _
  rw [rows_at]
  have h := word_and_eq_zero_iff i.val m (by have := i.isLt; omega) hm
  by_cases e : i.val &&& m = 0
  · rw [h.mpr e, e]; rfl
  · rw [decide_eq_false e, beq_eq_false_iff_ne.mpr fun q => e (h.mp q)]

/-- A compare-exchange at an index, by the two bits of the row number. -/
theorem exchange_at (j k : Nat) (hj : j < 2 ^ 32) (hk : k < 2 ^ 32) (up dn x : Arr Ideal) (i : Fin 4096) (q : Fin 256) :
    exchange (BitVec.ofNat 32 j) (BitVec.ofNat 32 k) up dn x (at2 i q)
      = if i.val &&& j = 0 then
          (if i.val &&& k = 0 then min (x (at2 i q)) (dn (at2 i q)) else max (x (at2 i q)) (dn (at2 i q)))
        else
          (if i.val &&& k = 0 then max (x (at2 i q)) (up (at2 i q)) else min (x (at2 i q)) (up (at2 i q))) := by
  show Scalar.select (bitSet (BitVec.ofNat 32 j) (at2 i q) ^^^ bitClear (BitVec.ofNat 32 k) (at2 i q))
    (min (x (at2 i q)) (Scalar.select (bitSet (BitVec.ofNat 32 j) (at2 i q)) (up (at2 i q)) (dn (at2 i q))))
    (max (x (at2 i q)) (Scalar.select (bitSet (BitVec.ofNat 32 j) (at2 i q)) (up (at2 i q)) (dn (at2 i q)))) = _
  rw [bitSet_at j hj, bitClear_at k hk]
  by_cases e : i.val &&& j = 0 <;> by_cases e' : i.val &&& k = 0 <;> simp [e, e', Scalar.select]

/-- ONE STAGE ON A COLUMN: the kernel's compare-exchange at distance `2 ^ s` and run length `2 ^ (l + 1)` is the
    bitonic network's stage. -/
theorem col_exchange (s l : Nat) (hs : s < l + 1) (hl : l < 12) (up dn x : Arr Ideal) (hr : Rolls s up dn x) (q : Fin 256) :
    col (exchange (BitVec.ofNat 32 (2 ^ s)) (BitVec.ofNat 32 (2 ^ (l + 1))) up dn x) q
      = Network.apply (stage 12 s fun i => (decide (i.val &&& 2 ^ (l + 1) = 0)) == false) (col x q) := by
  have hs12 : s < 12 := by omega
  have b1 : 2 ^ s < 2 ^ 32 := Nat.pow_lt_pow_right (by decide) (by omega)
  have b2 : 2 ^ (l + 1) < 2 ^ 32 := Nat.pow_lt_pow_right (by decide) (by omega)
  funext i
  show exchange _ _ up dn x (at2 (a := 4096) i q) = _
  rw [exchange_at _ _ b1 b2]
  by_cases hi : i.val &&& 2 ^ s = 0
  · rw [if_pos hi, (apply_stage hs12 _ (col x q) i hi).1]
    have hv := partner_val_of_clear hs12 i hi
    have e : dn (at2 (a := 4096) i q) = col x q (partner 12 s i) := by
      have hlt : i.val + 2 ^ s < 4096 := hv ▸ (partner 12 s i).isLt
      rw [hr.above i q hlt]
      exact congrArg (fun r => x (at2 (a := 4096) r q)) (Fin.ext hv.symm)
    rw [e]
    by_cases hk : i.val &&& 2 ^ (l + 1) = 0 <;> simp [hk, col]
  · rw [if_neg hi]
    have hc := partner_and_of_set hs12 i hi
    obtain ⟨hle, hv⟩ := partner_val_of_set hs12 i hi
    have h2 := (apply_stage hs12 (fun i => (decide (i.val &&& 2 ^ (l + 1) = 0)) == false) (col x q) (partner 12 s i) hc).2
    rw [partner_partner hs12] at h2
    rw [h2]
    have e : up (at2 (a := 4096) i q) = col x q (partner 12 s i) := by
      rw [hr.below i q hle (by have := i.isLt; omega)]
      exact congrArg (fun r => x (at2 (a := 4096) r q)) (Fin.ext hv.symm)
    have ek : (partner 12 s i).val &&& 2 ^ (l + 1) = i.val &&& 2 ^ (l + 1) := by
      rw [partner_val hs12, Nat.and_xor_distrib_right]
      have : 2 ^ s &&& 2 ^ (l + 1) = 0 := by
        refine Nat.eq_of_testBit_eq fun b => ?_
        rw [Nat.testBit_and, Nat.testBit_two_pow, Nat.testBit_two_pow, Nat.zero_testBit]
        by_cases h1 : s = b
        · have h2 : ¬ l + 1 = b := by omega
          rw [decide_eq_false h2, Bool.and_false]
        · rw [decide_eq_false h1, Bool.false_and]
      rw [this, Nat.xor_zero]
    rw [e, ek]
    by_cases hk : i.val &&& 2 ^ (l + 1) = 0 <;> simp [hk, col, min_comm, max_comm]

/-! ## The rolls at each distance -/

theorem rolls1 {F : FTy → Type} [FloatOps F] (x : Arr F) : Rolls 0 (up1 x) (dn1 x) x :=
  ⟨fun i q h hk => roll_second _ _ _ x i q h (show i.val - 1 < 4095 by have := i.isLt; omega) hk,
    fun i q hk => roll_first _ _ _ x i q (show i.val < 4095 from Nat.lt_sub_of_add_lt hk) hk⟩
theorem rolls2 {F : FTy → Type} [FloatOps F] (x : Arr F) : Rolls 1 (up2 x) (dn2 x) x :=
  ⟨fun i q h hk => roll_second _ _ _ x i q h (show i.val - 2 < 4094 by have := i.isLt; omega) hk,
    fun i q hk => roll_first _ _ _ x i q (show i.val < 4094 from Nat.lt_sub_of_add_lt hk) hk⟩
theorem rolls4 {F : FTy → Type} [FloatOps F] (x : Arr F) : Rolls 2 (up4 x) (dn4 x) x :=
  ⟨fun i q h hk => roll_second _ _ _ x i q h (show i.val - 4 < 4092 by have := i.isLt; omega) hk,
    fun i q hk => roll_first _ _ _ x i q (show i.val < 4092 from Nat.lt_sub_of_add_lt hk) hk⟩
theorem rolls8 {F : FTy → Type} [FloatOps F] (x : Arr F) : Rolls 3 (up8 x) (dn8 x) x :=
  ⟨fun i q h hk => roll_second _ _ _ x i q h (show i.val - 8 < 4088 by have := i.isLt; omega) hk,
    fun i q hk => roll_first _ _ _ x i q (show i.val < 4088 from Nat.lt_sub_of_add_lt hk) hk⟩
theorem rolls16 {F : FTy → Type} [FloatOps F] (x : Arr F) : Rolls 4 (up16 x) (dn16 x) x :=
  ⟨fun i q h hk => roll_second _ _ _ x i q h (show i.val - 16 < 4080 by have := i.isLt; omega) hk,
    fun i q hk => roll_first _ _ _ x i q (show i.val < 4080 from Nat.lt_sub_of_add_lt hk) hk⟩
theorem rolls32 {F : FTy → Type} [FloatOps F] (x : Arr F) : Rolls 5 (up32 x) (dn32 x) x :=
  ⟨fun i q h hk => roll_second _ _ _ x i q h (show i.val - 32 < 4064 by have := i.isLt; omega) hk,
    fun i q hk => roll_first _ _ _ x i q (show i.val < 4064 from Nat.lt_sub_of_add_lt hk) hk⟩
theorem rolls64 {F : FTy → Type} [FloatOps F] (x : Arr F) : Rolls 6 (up64 x) (dn64 x) x :=
  ⟨fun i q h hk => roll_second _ _ _ x i q h (show i.val - 64 < 4032 by have := i.isLt; omega) hk,
    fun i q hk => roll_first _ _ _ x i q (show i.val < 4032 from Nat.lt_sub_of_add_lt hk) hk⟩
theorem rolls128 {F : FTy → Type} [FloatOps F] (x : Arr F) : Rolls 7 (up128 x) (dn128 x) x :=
  ⟨fun i q h hk => roll_second _ _ _ x i q h (show i.val - 128 < 3968 by have := i.isLt; omega) hk,
    fun i q hk => roll_first _ _ _ x i q (show i.val < 3968 from Nat.lt_sub_of_add_lt hk) hk⟩
theorem rolls256 {F : FTy → Type} [FloatOps F] (x : Arr F) : Rolls 8 (up256 x) (dn256 x) x :=
  ⟨fun i q h hk => roll_second _ _ _ x i q h (show i.val - 256 < 3840 by have := i.isLt; omega) hk,
    fun i q hk => roll_first _ _ _ x i q (show i.val < 3840 from Nat.lt_sub_of_add_lt hk) hk⟩
theorem rolls512 {F : FTy → Type} [FloatOps F] (x : Arr F) : Rolls 9 (up512 x) (dn512 x) x :=
  ⟨fun i q h hk => roll_second _ _ _ x i q h (show i.val - 512 < 3584 by have := i.isLt; omega) hk,
    fun i q hk => roll_first _ _ _ x i q (show i.val < 3584 from Nat.lt_sub_of_add_lt hk) hk⟩
theorem rolls1024 {F : FTy → Type} [FloatOps F] (x : Arr F) : Rolls 10 (up1024 x) (dn1024 x) x :=
  ⟨fun i q h hk => roll_second _ _ _ x i q h (show i.val - 1024 < 3072 by have := i.isLt; omega) hk,
    fun i q hk => roll_first _ _ _ x i q (show i.val < 3072 from Nat.lt_sub_of_add_lt hk) hk⟩
theorem rolls2048 {F : FTy → Type} [FloatOps F] (x : Arr F) : Rolls 11 (up2048 x) (dn2048 x) x :=
  ⟨fun i q h hk => roll_second _ _ _ x i q h (show i.val - 2048 < 2048 by have := i.isLt; omega) hk,
    fun i q hk => roll_first _ _ _ x i q (show i.val < 2048 from Nat.lt_sub_of_add_lt hk) hk⟩

/-! ## The merges and the sort -/

/-- The stages of one level, first stage first, taken one at a time. -/
theorem apply_stages_cons {p : Nat} (S : List Nat) (s : Nat) (w : Fin (2 ^ p) → Bool) (v : Fin (2 ^ p) → EReal) :
    Network.apply ((s :: S).flatMap fun s => stage p s w) v = Network.apply (S.flatMap fun s => stage p s w) (Network.apply (stage p s w) v) := by
  rw [List.flatMap_cons, Network.apply_append]

theorem col_merge2 (x : Arr Ideal) (q : Fin 256) : col (merge2 x) q = Network.apply (levelNet 12 false 0) (col x q) := by
  show _ = Network.apply ([0].flatMap fun s => stage 12 s fun i => (decide (i.val &&& 2 ^ (0 + 1) = 0)) == false) (col x q)
  rw [apply_stages_cons, ← col_exchange 0 0 (by decide) (by decide) _ _ _ (rolls1 _)]
  rfl
theorem col_merge4 (x : Arr Ideal) (q : Fin 256) : col (merge4 x) q = Network.apply (levelNet 12 false 1) (col x q) := by
  show _ = Network.apply ([1, 0].flatMap fun s => stage 12 s fun i => (decide (i.val &&& 2 ^ (1 + 1) = 0)) == false) (col x q)
  rw [apply_stages_cons, ← col_exchange 1 1 (by decide) (by decide) _ _ _ (rolls2 _), apply_stages_cons, ← col_exchange 0 1 (by decide) (by decide) _ _ _ (rolls1 _)]
  rfl
theorem col_merge8 (x : Arr Ideal) (q : Fin 256) : col (merge8 x) q = Network.apply (levelNet 12 false 2) (col x q) := by
  show _ = Network.apply ([2, 1, 0].flatMap fun s => stage 12 s fun i => (decide (i.val &&& 2 ^ (2 + 1) = 0)) == false) (col x q)
  rw [apply_stages_cons, ← col_exchange 2 2 (by decide) (by decide) _ _ _ (rolls4 _), apply_stages_cons, ← col_exchange 1 2 (by decide) (by decide) _ _ _ (rolls2 _), apply_stages_cons, ← col_exchange 0 2 (by decide) (by decide) _ _ _ (rolls1 _)]
  rfl
theorem col_merge16 (x : Arr Ideal) (q : Fin 256) : col (merge16 x) q = Network.apply (levelNet 12 false 3) (col x q) := by
  show _ = Network.apply ([3, 2, 1, 0].flatMap fun s => stage 12 s fun i => (decide (i.val &&& 2 ^ (3 + 1) = 0)) == false) (col x q)
  rw [apply_stages_cons, ← col_exchange 3 3 (by decide) (by decide) _ _ _ (rolls8 _), apply_stages_cons, ← col_exchange 2 3 (by decide) (by decide) _ _ _ (rolls4 _), apply_stages_cons, ← col_exchange 1 3 (by decide) (by decide) _ _ _ (rolls2 _), apply_stages_cons, ← col_exchange 0 3 (by decide) (by decide) _ _ _ (rolls1 _)]
  rfl
theorem col_merge32 (x : Arr Ideal) (q : Fin 256) : col (merge32 x) q = Network.apply (levelNet 12 false 4) (col x q) := by
  show _ = Network.apply ([4, 3, 2, 1, 0].flatMap fun s => stage 12 s fun i => (decide (i.val &&& 2 ^ (4 + 1) = 0)) == false) (col x q)
  rw [apply_stages_cons, ← col_exchange 4 4 (by decide) (by decide) _ _ _ (rolls16 _), apply_stages_cons, ← col_exchange 3 4 (by decide) (by decide) _ _ _ (rolls8 _), apply_stages_cons, ← col_exchange 2 4 (by decide) (by decide) _ _ _ (rolls4 _), apply_stages_cons, ← col_exchange 1 4 (by decide) (by decide) _ _ _ (rolls2 _), apply_stages_cons, ← col_exchange 0 4 (by decide) (by decide) _ _ _ (rolls1 _)]
  rfl
theorem col_merge64 (x : Arr Ideal) (q : Fin 256) : col (merge64 x) q = Network.apply (levelNet 12 false 5) (col x q) := by
  show _ = Network.apply ([5, 4, 3, 2, 1, 0].flatMap fun s => stage 12 s fun i => (decide (i.val &&& 2 ^ (5 + 1) = 0)) == false) (col x q)
  rw [apply_stages_cons, ← col_exchange 5 5 (by decide) (by decide) _ _ _ (rolls32 _), apply_stages_cons, ← col_exchange 4 5 (by decide) (by decide) _ _ _ (rolls16 _), apply_stages_cons, ← col_exchange 3 5 (by decide) (by decide) _ _ _ (rolls8 _), apply_stages_cons, ← col_exchange 2 5 (by decide) (by decide) _ _ _ (rolls4 _), apply_stages_cons, ← col_exchange 1 5 (by decide) (by decide) _ _ _ (rolls2 _), apply_stages_cons, ← col_exchange 0 5 (by decide) (by decide) _ _ _ (rolls1 _)]
  rfl
theorem col_merge128 (x : Arr Ideal) (q : Fin 256) : col (merge128 x) q = Network.apply (levelNet 12 false 6) (col x q) := by
  show _ = Network.apply ([6, 5, 4, 3, 2, 1, 0].flatMap fun s => stage 12 s fun i => (decide (i.val &&& 2 ^ (6 + 1) = 0)) == false) (col x q)
  rw [apply_stages_cons, ← col_exchange 6 6 (by decide) (by decide) _ _ _ (rolls64 _), apply_stages_cons, ← col_exchange 5 6 (by decide) (by decide) _ _ _ (rolls32 _), apply_stages_cons, ← col_exchange 4 6 (by decide) (by decide) _ _ _ (rolls16 _), apply_stages_cons, ← col_exchange 3 6 (by decide) (by decide) _ _ _ (rolls8 _), apply_stages_cons, ← col_exchange 2 6 (by decide) (by decide) _ _ _ (rolls4 _), apply_stages_cons, ← col_exchange 1 6 (by decide) (by decide) _ _ _ (rolls2 _), apply_stages_cons, ← col_exchange 0 6 (by decide) (by decide) _ _ _ (rolls1 _)]
  rfl
theorem col_merge256 (x : Arr Ideal) (q : Fin 256) : col (merge256 x) q = Network.apply (levelNet 12 false 7) (col x q) := by
  show _ = Network.apply ([7, 6, 5, 4, 3, 2, 1, 0].flatMap fun s => stage 12 s fun i => (decide (i.val &&& 2 ^ (7 + 1) = 0)) == false) (col x q)
  rw [apply_stages_cons, ← col_exchange 7 7 (by decide) (by decide) _ _ _ (rolls128 _), apply_stages_cons, ← col_exchange 6 7 (by decide) (by decide) _ _ _ (rolls64 _), apply_stages_cons, ← col_exchange 5 7 (by decide) (by decide) _ _ _ (rolls32 _), apply_stages_cons, ← col_exchange 4 7 (by decide) (by decide) _ _ _ (rolls16 _), apply_stages_cons, ← col_exchange 3 7 (by decide) (by decide) _ _ _ (rolls8 _), apply_stages_cons, ← col_exchange 2 7 (by decide) (by decide) _ _ _ (rolls4 _), apply_stages_cons, ← col_exchange 1 7 (by decide) (by decide) _ _ _ (rolls2 _), apply_stages_cons, ← col_exchange 0 7 (by decide) (by decide) _ _ _ (rolls1 _)]
  rfl
theorem col_merge512 (x : Arr Ideal) (q : Fin 256) : col (merge512 x) q = Network.apply (levelNet 12 false 8) (col x q) := by
  show _ = Network.apply ([8, 7, 6, 5, 4, 3, 2, 1, 0].flatMap fun s => stage 12 s fun i => (decide (i.val &&& 2 ^ (8 + 1) = 0)) == false) (col x q)
  rw [apply_stages_cons, ← col_exchange 8 8 (by decide) (by decide) _ _ _ (rolls256 _), apply_stages_cons, ← col_exchange 7 8 (by decide) (by decide) _ _ _ (rolls128 _), apply_stages_cons, ← col_exchange 6 8 (by decide) (by decide) _ _ _ (rolls64 _), apply_stages_cons, ← col_exchange 5 8 (by decide) (by decide) _ _ _ (rolls32 _), apply_stages_cons, ← col_exchange 4 8 (by decide) (by decide) _ _ _ (rolls16 _), apply_stages_cons, ← col_exchange 3 8 (by decide) (by decide) _ _ _ (rolls8 _), apply_stages_cons, ← col_exchange 2 8 (by decide) (by decide) _ _ _ (rolls4 _), apply_stages_cons, ← col_exchange 1 8 (by decide) (by decide) _ _ _ (rolls2 _), apply_stages_cons, ← col_exchange 0 8 (by decide) (by decide) _ _ _ (rolls1 _)]
  rfl
theorem col_merge1024 (x : Arr Ideal) (q : Fin 256) : col (merge1024 x) q = Network.apply (levelNet 12 false 9) (col x q) := by
  show _ = Network.apply ([9, 8, 7, 6, 5, 4, 3, 2, 1, 0].flatMap fun s => stage 12 s fun i => (decide (i.val &&& 2 ^ (9 + 1) = 0)) == false) (col x q)
  rw [apply_stages_cons, ← col_exchange 9 9 (by decide) (by decide) _ _ _ (rolls512 _), apply_stages_cons, ← col_exchange 8 9 (by decide) (by decide) _ _ _ (rolls256 _), apply_stages_cons, ← col_exchange 7 9 (by decide) (by decide) _ _ _ (rolls128 _), apply_stages_cons, ← col_exchange 6 9 (by decide) (by decide) _ _ _ (rolls64 _), apply_stages_cons, ← col_exchange 5 9 (by decide) (by decide) _ _ _ (rolls32 _), apply_stages_cons, ← col_exchange 4 9 (by decide) (by decide) _ _ _ (rolls16 _), apply_stages_cons, ← col_exchange 3 9 (by decide) (by decide) _ _ _ (rolls8 _), apply_stages_cons, ← col_exchange 2 9 (by decide) (by decide) _ _ _ (rolls4 _), apply_stages_cons, ← col_exchange 1 9 (by decide) (by decide) _ _ _ (rolls2 _), apply_stages_cons, ← col_exchange 0 9 (by decide) (by decide) _ _ _ (rolls1 _)]
  rfl
theorem col_merge2048 (x : Arr Ideal) (q : Fin 256) : col (merge2048 x) q = Network.apply (levelNet 12 false 10) (col x q) := by
  show _ = Network.apply ([10, 9, 8, 7, 6, 5, 4, 3, 2, 1, 0].flatMap fun s => stage 12 s fun i => (decide (i.val &&& 2 ^ (10 + 1) = 0)) == false) (col x q)
  rw [apply_stages_cons, ← col_exchange 10 10 (by decide) (by decide) _ _ _ (rolls1024 _), apply_stages_cons, ← col_exchange 9 10 (by decide) (by decide) _ _ _ (rolls512 _), apply_stages_cons, ← col_exchange 8 10 (by decide) (by decide) _ _ _ (rolls256 _), apply_stages_cons, ← col_exchange 7 10 (by decide) (by decide) _ _ _ (rolls128 _), apply_stages_cons, ← col_exchange 6 10 (by decide) (by decide) _ _ _ (rolls64 _), apply_stages_cons, ← col_exchange 5 10 (by decide) (by decide) _ _ _ (rolls32 _), apply_stages_cons, ← col_exchange 4 10 (by decide) (by decide) _ _ _ (rolls16 _), apply_stages_cons, ← col_exchange 3 10 (by decide) (by decide) _ _ _ (rolls8 _), apply_stages_cons, ← col_exchange 2 10 (by decide) (by decide) _ _ _ (rolls4 _), apply_stages_cons, ← col_exchange 1 10 (by decide) (by decide) _ _ _ (rolls2 _), apply_stages_cons, ← col_exchange 0 10 (by decide) (by decide) _ _ _ (rolls1 _)]
  rfl
theorem col_merge4096 (x : Arr Ideal) (q : Fin 256) : col (merge4096 x) q = Network.apply (levelNet 12 false 11) (col x q) := by
  show _ = Network.apply ([11, 10, 9, 8, 7, 6, 5, 4, 3, 2, 1, 0].flatMap fun s => stage 12 s fun i => (decide (i.val &&& 2 ^ (11 + 1) = 0)) == false) (col x q)
  rw [apply_stages_cons, ← col_exchange 11 11 (by decide) (by decide) _ _ _ (rolls2048 _), apply_stages_cons, ← col_exchange 10 11 (by decide) (by decide) _ _ _ (rolls1024 _), apply_stages_cons, ← col_exchange 9 11 (by decide) (by decide) _ _ _ (rolls512 _), apply_stages_cons, ← col_exchange 8 11 (by decide) (by decide) _ _ _ (rolls256 _), apply_stages_cons, ← col_exchange 7 11 (by decide) (by decide) _ _ _ (rolls128 _), apply_stages_cons, ← col_exchange 6 11 (by decide) (by decide) _ _ _ (rolls64 _), apply_stages_cons, ← col_exchange 5 11 (by decide) (by decide) _ _ _ (rolls32 _), apply_stages_cons, ← col_exchange 4 11 (by decide) (by decide) _ _ _ (rolls16 _), apply_stages_cons, ← col_exchange 3 11 (by decide) (by decide) _ _ _ (rolls8 _), apply_stages_cons, ← col_exchange 2 11 (by decide) (by decide) _ _ _ (rolls4 _), apply_stages_cons, ← col_exchange 1 11 (by decide) (by decide) _ _ _ (rolls2 _), apply_stages_cons, ← col_exchange 0 11 (by decide) (by decide) _ _ _ (rolls1 _)]
  rfl
/-- ON EVERY COLUMN the kernel's network is Batcher's ascending bitonic sort. -/
theorem col_network (x : Arr Ideal) (q : Fin 256) : col (network x) q = Network.apply (sortNet 12 false) (col x q) := by
  rw [sortNet_eq_levelsNet]
  unfold network
  iterate 12 rw [levelsNet_succ, Network.apply_append]
  rw [col_merge4096, col_merge2048, col_merge1024, col_merge512, col_merge256, col_merge128, col_merge64, col_merge32, col_merge16, col_merge8, col_merge4, col_merge2]
  rfl

/-- So every column of the kernel's network ascends, -/
theorem network_monotone (x : Arr Ideal) (q : Fin 256) : Monotone (col (network x) q) := by
  rw [col_network]
  exact sortNet_apply_monotone 12 (col x q)

/-- and holds the column's entries rearranged. -/
theorem network_perm (x : Arr Ideal) (q : Fin 256) : ∃ σ : Equiv.Perm (Fin (2 ^ 12)), col (network x) q = col x q ∘ σ := by
  rw [col_network]
  exact Network.exists_perm _ _

end Cert.RingSort

end
-- ==== Proof.Ring.lean ====
/-
# The ring: its neighbours, its slots and what they hold

Four devices stand in a ring; device `c` sends to `nxt c` and hears from `prv c`. Every device has an array of four
slots, slot `k` for the block of device `k`. In hop `h` device `c` forwards the slot `back c h`, the block of the
device `h` places behind it. After the three hops every device holds the same array, `gath`.
-/
module

public import proofs.«01_k».proof.Proof.Compact
public import proofs.«01_k».proof.Proof.Net
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.RingSort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

set_option backward.proofsInPublic true in
/-- The device after `c`. -/
def nxt (c : Dev nD) : Dev nD := ⟨(c.val + 1) % 4, Nat.mod_lt _ (by decide)⟩

set_option backward.proofsInPublic true in
/-- The device `h` places behind `c`. -/
def back (c : Dev nD) (h : Fin 4) : Dev nD := ⟨(c.val + 4 - h.val) % 4, Nat.mod_lt _ (by decide)⟩

/-- The device before `c`. -/
abbrev prv (c : Dev nD) : Dev nD := back c 1

theorem prv_nxt (c : Dev nD) : prv (nxt c) = c := by revert c; decide
theorem nxt_prv (c : Dev nD) : nxt (prv c) = c := by revert c; decide
theorem back_zero (c : Dev nD) : back c 0 = c := by revert c; decide
/-- What `c` sends in hop `h`, `nxt c` forwards one hop later. -/
theorem back_nxt (c : Dev nD) (h : Fin 3) : back (nxt c) h.succ = back c h.castSucc := by revert c h; decide

/-- The ring as a permutation of the devices. -/
def ring : Dev nD ≃ Dev nD := ⟨nxt, prv, prv_nxt, nxt_prv⟩

/-- The devices behind `c`, from itself on, are all four. -/
def behind (c : Dev nD) : Fin 4 ≃ Dev nD where
  toFun := back c
  invFun k := back c k
  left_inv := by revert c; decide
  right_inv := by revert c; decide

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel

/-! ## Slots -/

/-- Where slot `k` starts. -/
abbrev slotOff (k : Dev nD) : Fin 2 → Nat := ![1024 * k.val, 0]

theorem off1_eq (c : Dev nD) : k0_off1 c = slotOff (back c 0) := by revert c; decide +kernel
theorem off2_0 (c : Dev nD) : k0_off2 c 0#32 = slotOff (back c 0) := by revert c; decide +kernel
theorem off2_1 (c : Dev nD) : k0_off2 c 1#32 = slotOff (back c 1) := by revert c; decide +kernel
theorem off2_2 (c : Dev nD) : k0_off2 c 2#32 = slotOff (back c 2) := by revert c; decide +kernel

theorem slotOff_inb (k : Dev nD) : ∀ a, slotOff k a + S1024x256.size a ≤ S4096x256.size a := by revert k; decide

abbrev xM : Memref sig .tc .vmem S1024x256 .bf16 := Memref.whole cc0_stg0_0
abbrev oM : Memref sig .tc .vmem S1024x256 .f32 := Memref.whole cc0_stg1_0
abbrev gM : Memref sig .tc .vmem S4096x256 .bf16 := Memref.whole cc0_scratch0

/-- The rows of slot `k`. -/
abbrev slotR (k : Dev nD) : Rect S4096x256 := Rect.unit (s := S4096x256) (slotOff k) S1024x256.size (slotOff_inb k)

/-- Slot `k` of the gather array. -/
abbrev slotM (k : Dev nD) : Memref sig .tc .vmem S1024x256 .bf16 := gM.slice (slotR k) (fun _ => rfl)

/-- The elements of slot `k`. -/
abbrev slotSet (k : Dev nD) : Finset S4096x256.Idx := (slotM k).view.set

theorem slot_set (k : Dev nD) : slotSet k = (slotR k).set := View.set_slice_whole _ _

theorem slot_disjoint (k k' : Dev nD) (h : k ≠ k') : Disjoint (slotSet k) (slotSet k') := by
  rw [slot_set, slot_set]
  refine Rect.unit_disjoint (0 : Fin 2) ?_
  have hv : k.val ≠ k'.val := fun e => h (Fin.ext e)
  show 1024 * k.val + 1024 ≤ 1024 * k'.val ∨ 1024 * k'.val + 1024 ≤ 1024 * k.val
  omega

theorem slot_cover : (Finset.univ : Finset (Dev nD)).biUnion slotSet = Finset.univ := by
  refine Finset.eq_univ_iff_forall.mpr fun i => Finset.mem_biUnion.mpr ?_
  have hi : (i (0 : Fin 2)).val < 4096 := (i (0 : Fin 2)).isLt
  have hj : (i (1 : Fin 2)).val < 256 := (i (1 : Fin 2)).isLt
  refine ⟨⟨(i (0 : Fin 2)).val / 1024, by show _ < 4; omega⟩, Finset.mem_univ _, ?_⟩
  rw [slot_set]
  refine Rect.mem_set_unit.mpr fun a => ?_
  match a with
  | ⟨0, _⟩ =>
    show 1024 * ((i (0 : Fin 2)).val / 1024) ≤ (i (0 : Fin 2)).val ∧ (i (0 : Fin 2)).val < 1024 * ((i (0 : Fin 2)).val / 1024) + 1024
    omega
  | ⟨1, _⟩ =>
    show 0 ≤ (i (1 : Fin 2)).val ∧ (i (1 : Fin 2)).val < 0 + 256
    omega

/-- The same slot, at whatever rows the kernel computes for it. -/
theorem slice_eq {off : Fin 2 → Nat} {k : Dev nD} (h : off = slotOff k) (inb) :
    gM.slice (Rect.unit (s := S4096x256) off S1024x256.size inb) (fun _ => rfl) = slotM k :=
  Memref.slice_unit_congr gM h _ _ _ _

/-- The credit of one block. -/
def N : ℕ := (slotM 0).view.dmaCredit
theorem N_pos : 0 < N := View.dmaCredit_pos _ (by decide)
/-- Every slot's transfer counts the same. -/
theorem credit_slot (k : Dev nD) : (slotM k).view.dmaCredit = N := rfl

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The gathered array: block `k` in slot `k`. -/
def gath : (cc0_scratch0 : Ref sig .tc).ty.Contents (Elt F) := fun i =>
  xstg m ρ ⟨(i (0 : Fin 2)).val / 1024, by
      have hi : (i (0 : Fin 2)).val < 4096 := (i (0 : Fin 2)).isLt
      show _ < 4; omega⟩
    (at2 (a := 1024) ⟨(i (0 : Fin 2)).val % 1024, Nat.mod_lt _ (by decide)⟩ ⟨(i (1 : Fin 2)).val, (i (1 : Fin 2)).isLt⟩)

omit [FloatOps F] in
/-- Slot `k` of the gathered array is device `k`'s block. -/
theorem read_gath (k : Dev nD) : (slotM k).view.read (Elt F) (gath m ρ) = xstg m ρ k := by
  funext x
  have hx : (x (0 : Fin 2)).val < 1024 := (x (0 : Fin 2)).isLt
  have e0 : ((slotR k).emb x (0 : Fin 2)).val = 1024 * k.val + (x (0 : Fin 2)).val := by
    show 1024 * k.val + 1 * (x (0 : Fin 2)).val = _; omega
  have e1 : ((slotR k).emb x (1 : Fin 2)).val = (x (1 : Fin 2)).val := by
    show 0 + 1 * (x (1 : Fin 2)).val = _; omega
  show gath m ρ ((slotR k).emb x) = xstg m ρ k x
  unfold gath
  have hk : (⟨((slotR k).emb x (0 : Fin 2)).val / 1024, by
      have hi : ((slotR k).emb x (0 : Fin 2)).val < 4096 := ((slotR k).emb x (0 : Fin 2)).isLt
      show _ < 4; omega⟩ : Dev nD) = k := Fin.ext (by show _ / 1024 = k.val; omega)
  have hj : (at2 (a := 1024) ⟨((slotR k).emb x (0 : Fin 2)).val % 1024, Nat.mod_lt _ (by decide)⟩
      ⟨((slotR k).emb x (1 : Fin 2)).val, ((slotR k).emb x (1 : Fin 2)).isLt⟩ : S1024x256.Idx) = x := by
    funext a
    match a with
    | ⟨0, _⟩ => exact Fin.ext (by show _ % 1024 = (x (0 : Fin 2)).val; omega)
    | ⟨1, _⟩ => exact Fin.ext e1
  exact (congrArg (fun c => xstg m ρ c _) hk).trans (congrArg (xstg m ρ k) hj)

omit [FloatOps F] in
/-- A transfer of slot `k` off the gathered array leaves the gathered array's slot `k`, whatever was there. -/
theorem write_slot (k : Dev nD) (fd : (cc0_scratch0 : Ref sig .tc).ty.Contents (Elt F)) :
    ∀ i ∈ slotSet k,
      (slotM k).view.write (Elt F) fd ((slotM k).view.read (Elt F) (gath m ρ)) Finset.univ i = gath m ρ i := by
  intro i hi
  rw [View.write_read_eq_piecewise]
  exact Finset.piecewise_eq_of_mem _ _ _ hi

end Cert.RingSort

end
-- ==== Proof.Sched.lean ====
/-
# The protocol: who pays which semaphore with what

Every device has seven semaphores of the ring: the barrier, and one to send and one to receive by for each hop. Each
is used once. A device's barrier is paid by both neighbours; the one after it hands over the three slots this device
will write there. A send semaphore is paid by the device's own transfer and gives the slot it read back; a receive
semaphore is paid by the transfer of the device before it and gives the slot it wrote.
-/
module

public import proofs.«01_k».proof.Proof.Ring

@[expose] public section

noncomputable section

namespace Cert.RingSort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's own ghost state, beside the pipeline's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- A semaphore of the ring: the barrier, or hop `h`'s to send (`false`) or to receive (`true`) by. -/
abbrev Cell : Type := Option (Bool × Fin 3)
abbrev bar : Cell := none
abbrev snd (h : Fin 3) : Cell := some (false, h)
abbrev rcv (h : Fin 3) : Cell := some (true, h)

/-- The barrier semaphore. -/
abbrev barS : Sem sig := (SemArray.scalar (sig.barrier 0 rfl) : Sems sig S_).sem
set_option backward.proofsInPublic true in
/-- Hop `h`'s transfer semaphore. -/
def xferS (b : Bool) (h : Fin 3) : DmaSem sig := match b with
  | false => ⟨2 + h.val, by show _ < 8; omega⟩
  | true => ⟨5 + h.val, by show _ < 8; omega⟩

/-- Where a semaphore of the ring lies. -/
def csem : Cell → SemLoc sig
  | none => .reg barS
  | some (b, h) => .dma (xferS b h)

/-- Which of the ring's semaphores lies there, if one does. -/
def cellIx : SemLoc sig → Option Cell
  | .reg _ => some none
  | .dma q => if q.val < 2 then none else if q.val < 5 then some (snd (Fin.ofNat 3 (q.val - 2))) else some (rcv (Fin.ofNat 3 (q.val - 5)))

theorem cellIx_csem (k : Cell) : cellIx (csem k) = some k := by revert k; decide

/-- Semaphore `k` of device `c`. -/
abbrev cell (c : Dev nD) (k : Cell) : GSem nD τ sig := ((c : Thread nD τ), csem k)

theorem cell_inj {c c' : Dev nD} {k k' : Cell} (h : cell c k = cell c' k') : c = c' ∧ k = k' := by
  refine ⟨congrArg (fun g : GSem nD τ sig => g.1.1) h, ?_⟩
  have h2 := congrArg (fun g : GSem nD τ sig => cellIx g.2) h
  exact Option.some.inj (((cellIx_csem k).symm.trans h2).trans (cellIx_csem k'))

variable (m : (ℓ : Loc nD τ sig) → Buf (Elt F) ℓ) (ρ : Dev nD → PrngReg)

/-! ## What is handed over -/

/-- Slot `k` of device `c`, holding `f` there. -/
def slotPts (c k : Dev nD) (f : (cc0_scratch0 : Ref sig .tc).ty.Contents (Elt F)) : sProp 𝕄 :=
  (slotM k).view.loc (c : Thread nD τ) ↦[(slotM k).view.set]{fullShare} f

omit [FloatOps F] in
instance slotPts_storable (c k : Dev nD) (f) : BI.Storable (upEmb : UEmb _ 𝕄) (slotPts (F := F) c k f) := by
  unfold slotPts; infer_instance

/-- The three slots of `nxt c` that `c` writes, at any contents. -/
def lent (c : Dev nD) : sProp 𝕄 :=
  bigSep Finset.univ fun h : Fin 3 => iprop(∃ f, slotPts (nxt c) (back c h.castSucc) f)

omit [FloatOps F] in
instance lent_storable (c : Dev nD) : BI.Storable (upEmb : UEmb _ 𝕄) (lent (F := F) c) := by
  unfold lent; infer_instance

/-- What the payer of duty `d` at device `c`'s semaphore `k` hands over. -/
def pay (c : Dev nD) : Cell → Bool → sProp 𝕄
  | none, true => lent c
  | none, false => iprop(emp)
  | some (false, h), _ => slotPts c (back c h.castSucc) (gath m ρ)
  | some (true, h), _ => slotPts c (back c h.succ) (gath m ρ)

/-- The duties of a semaphore. -/
def dutiesOf : Option Cell → Finset Bool
  | none => ∅
  | some none => Finset.univ
  | some (some _) => {false}

/-- What one duty of a semaphore counts. -/
def amountOf : Option Cell → ℕ
  | some none => 1
  | _ => N

/-- The schedule: one round for every semaphore of the ring. -/
def Rd : Rounds.Schedule (GSem nD τ sig) Bool 𝕄 where
  duties g r := if r = 0 ∧ g.1.2 = .tc then dutiesOf (cellIx g.2) else ∅
  unitless _ := False
  amount g _ _ := amountOf (cellIx g.2)
  payload g _ d := match cellIx g.2 with
    | some k => pay m ρ g.1.1 k d
    | none => iprop(emp)
  amount_pos g _ _ _ := by
    match cellIx g.2 with
    | none => exact N_pos
    | some none => exact Nat.one_pos
    | some (some _) => exact N_pos

omit [FloatOps F] in
theorem pay_storable (c : Dev nD) (k : Cell) (d : Bool) : BI.Storable (upEmb : UEmb _ 𝕄) (pay m ρ c k d) := by
  match k, d with
  | none, true => exact lent_storable c
  | none, false => unfold pay; infer_instance
  | some (false, h), _ => exact slotPts_storable _ _ _
  | some (true, h), _ => exact slotPts_storable _ _ _

instance Rd_payload_storable (g : GSem nD τ sig) (r : ℕ) (d : Bool) :
    BI.Storable (upEmb : UEmb _ 𝕄) ((Rd (F := F) m ρ).payload g r d) := by
  dsimp only [Rd]
  split
  · exact pay_storable m ρ _ _ _
  · infer_instance

section
variable (c : Dev nD) (k : Cell)

omit [FloatOps F] in
theorem duties_cell : (Rd (F := F) m ρ).duties (cell c k) 0 = dutiesOf (some k) := by
  dsimp only [Rd]; rw [if_pos ⟨rfl, rfl⟩, cellIx_csem]
omit [FloatOps F] in
theorem duties_later (g : GSem nD τ sig) : ∀ r, 1 ≤ r → (Rd (F := F) m ρ).duties g r = ∅ :=
  fun r hr => by dsimp only [Rd]; rw [if_neg fun h => by omega]
omit [FloatOps F] in
theorem amount_cell (d : Bool) : (Rd (F := F) m ρ).amount (cell c k) 0 d = amountOf (some k) := by
  dsimp only [Rd]; rw [cellIx_csem]
omit [FloatOps F] in
theorem payload_cell (d : Bool) : (Rd (F := F) m ρ).payload (cell c k) 0 d = pay m ρ c k d := by
  dsimp only [Rd]; rw [cellIx_csem]
omit [FloatOps F] in
/-- Every semaphore of the ring has the duty `false`, -/
theorem false_duty : false ∈ (Rd (F := F) m ρ).duties (cell c k) 0 := by
  rw [duties_cell]
  match k with
  | none => exact Finset.mem_univ _
  | some _ => exact Finset.mem_singleton_self _
omit [FloatOps F] in
/-- the barrier the duty `true` besides. -/
theorem true_duty : true ∈ (Rd (F := F) m ρ).duties (cell c bar) 0 := by
  rw [duties_cell]; exact Finset.mem_univ _

omit [FloatOps F] in
theorem expect_bar : (Rd (F := F) m ρ).expect (cell c bar) 0 = 2 := by
  unfold Schedule.expect Schedule.amountOf
  rw [duties_cell, Finset.sum_congr rfl fun d _ => amount_cell m ρ c bar d]
  show ∑ _d : Bool, 1 = 2
  rw [Finset.sum_const, Finset.card_univ, Fintype.card_bool, smul_eq_mul]
omit [FloatOps F] in
theorem expect_xfer (x : Bool × Fin 3) : (Rd (F := F) m ρ).expect (cell c (some x)) 0 = N := by
  unfold Schedule.expect Schedule.amountOf
  rw [duties_cell]
  show ∑ d ∈ ({false} : Finset Bool), _ = N
  rw [Finset.sum_singleton, amount_cell]; rfl

omit [FloatOps F] in
/-- All the barrier gives: the three slots of the device after. -/
theorem rest_bar : bigSep ((Rd (F := F) m ρ).duties (cell c bar) 0 \ ∅) (fun d => (Rd (F := F) m ρ).payload (cell c bar) 0 d)
    = iprop(emp ∗ lent c) := by
  rw [Finset.sdiff_empty, duties_cell, bigSep_congr (fun d _ => payload_cell m ρ c bar d)]
  exact bigSep_univ_eq_bigSepL [false, true] (by decide) (by decide) _
omit [FloatOps F] in
/-- All a transfer semaphore gives. -/
theorem rest_xfer (x : Bool × Fin 3) :
    bigSep ((Rd (F := F) m ρ).duties (cell c (some x)) 0 \ ∅) (fun d => (Rd (F := F) m ρ).payload (cell c (some x)) 0 d)
      = pay m ρ c (some x) false := by
  rw [Finset.sdiff_empty, duties_cell, bigSep_congr (fun d _ => payload_cell m ρ c (some x) d)]
  exact bigSep_singleton

end

/-! ## What is owed, and in which order it is waited for -/

/-- What device `c` owes with `n` hops to go: the credit of the last `n` transfers. -/
def rem (c : Dev nD) : ℕ → CellTallies nD τ sig Unit
  | 0 => 0
  | n + 1 => rem c n + tallyAt (cell (nxt c) (rcv (Fin.ofNat 3 (2 - n)))) () N

/-- With `h` hops done. -/
abbrev after (c : Dev nD) (h : Fin 4) : CellTallies nD τ sig Unit := rem c (3 - h.val)

theorem after_step (c : Dev nD) (h : Fin 3) :
    after c h.castSucc = after c h.succ + tallyAt (cell (nxt c) (rcv h)) () N := by
  match h with
  | ⟨0, _⟩ => rfl
  | ⟨1, _⟩ => rfl
  | ⟨2, _⟩ => rfl

/-- What device `c` owes after its first signal, and at launch. -/
def O₁ (c : Dev nD) : CellTallies nD τ sig Unit := rem c 3 + tallyAt (cell (nxt c) bar) () 1
def O₀ (c : Dev nD) : CellTallies nD τ sig Unit := O₁ c + tallyAt (cell (prv c) bar) () 1

def L (g : GSem nD τ sig) : Finset Unit := if g.1.2 = .tc then {()} else ∅

/-- The level of a semaphore: barriers above staging and sends, then the hops' receives in order. -/
def lvOf : Option Cell → ℕ
  | some none => 1
  | some (some (true, h)) => 2 + h.val
  | _ => 0
def lv (g : GSem nD τ sig) (_ : Unit) : ℕ := lvOf (cellIx g.2)

theorem lv_cell (c : Dev nD) (k : Cell) : lv (cell c k) () = lvOf (some k) := by unfold lv; rw [cellIx_csem]

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- With `n` hops to go only the last `n` receives are owed. -/
theorem rem_pos {c : Dev nD} {g : GSem nD τ sig} {u : Unit} :
    ∀ {n : ℕ}, n ≤ 3 → 0 < rem c n g u → ∃ h : Fin 3, g = cell (nxt c) (rcv h) ∧ 3 ≤ h.val + n
  | 0, _, hp => absurd hp (Nat.lt_irrefl 0)
  | n + 1, hn, hp => by
    rw [rem, Pi.add_apply, Finsupp.add_apply] at hp
    rcases Nat.eq_zero_or_pos (rem c n g u) with hz | hz
    · rw [hz, Nat.zero_add] at hp
      refine ⟨_, tally_pos hp, ?_⟩
      show 3 ≤ (2 - n) % 3 + (n + 1)
      omega
    · obtain ⟨h, hg, hh⟩ := rem_pos (Nat.le_of_succ_le hn) hz
      exact ⟨h, hg, by omega⟩

theorem O₀_pos {c : Dev nD} {g : GSem nD τ sig} {u : Unit} (hp : 0 < O₀ c g u) :
    ∃ (d : Dev nD) (k : Cell), g = cell d k ∧ 0 < lvOf (some k) := by
  unfold O₀ O₁ at hp
  rw [Pi.add_apply, Finsupp.add_apply, Pi.add_apply, Finsupp.add_apply] at hp
  rcases Nat.eq_zero_or_pos (rem c 3 g u) with hz | hz
  · rcases Nat.eq_zero_or_pos ((tallyAt (cell (nxt c) bar) () 1 : CellTallies nD τ sig Unit) g u) with hy | hy
    · rw [hz, hy, Nat.zero_add] at hp
      exact ⟨_, _, tally_pos hp, Nat.one_pos⟩
    · exact ⟨_, _, tally_pos hy, Nat.one_pos⟩
  · obtain ⟨h, hg, _⟩ := rem_pos (Nat.le_refl 3) hz
    exact ⟨_, _, hg, by show 0 < 2 + h.val; omega⟩

omit [FloatOps F] in
/-- A device may wait at a semaphore below everything it owes. -/
theorem mayWait (c : Dev nD) (sm : SemLoc sig) (O : CellTallies nD τ sig Unit)
    (hO : ∀ g u, 0 < O g u → ∃ (d : Dev nD) (k : Cell), g = cell d k ∧ lvOf (cellIx sm) < lvOf (some k)) :
    (levAts L lv : sProp 𝕄) ⊢ MayWait (c : Thread nD τ) sm () O :=
  MayOwe.of_cut (L := L) (lev := lv) (lvOf (cellIx sm))
    (fun p hp => by rw [Finset.mem_singleton.mp hp, L_tc]; exact Finset.mem_singleton_self _)
    (fun g u hg => by obtain ⟨d, k, rfl, _⟩ := hO g u hg; rw [L_tc]; exact Finset.mem_singleton_self _)
    (fun p hp => by rw [Finset.mem_singleton.mp hp]; exact Nat.le_refl _)
    (fun g u hg => by obtain ⟨d, k, rfl, h⟩ := hO g u hg; rw [lv_cell]; exact h)

omit [FloatOps F] in
/-- In particular with `h` hops done at any semaphore below the later receives. -/
theorem mayWait_after (c : Dev nD) (k : Cell) (h : Fin 4) (hk : lvOf (some k) < 2 + h.val) :
    (levAts L lv : sProp 𝕄) ⊢ MayWait (c : Thread nD τ) (csem k) () (after c h) :=
  mayWait c _ _ fun g u hg => by
    obtain ⟨h', rfl, hh⟩ := rem_pos (by omega) hg
    refine ⟨_, _, rfl, ?_⟩
    rw [cellIx_csem]
    show _ < 2 + h'.val
    have := h.isLt
    omega

end Cert.RingSort

end
-- ==== Proof.Hop.lean ====
/-
# One hop of the gather

A device sends the slot it has to the same slot of the device after it, waits for its own send, then for the slot the
device before it sends. It ends with both slots, each holding its part of the gathered array, and with the two
semaphores of the hop closed.
-/
module

public import proofs.«01_k».proof.Proof.Sched

@[expose] public section

noncomputable section

namespace Cert.RingSort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg) (K : Dev nD × Cell → ℕ)

/-! ## What every device knows of all the semaphores -/

/-- The invariants of all semaphores of the ring, under the names `K`, and that each is at its first round. -/
def records : sProp 𝕄 :=
  iprop((bigSep Finset.univ fun ck : Dev nD × Cell => cellInv ER (Rd m ρ) (K ck) (cell ck.1 ck.2))
    ∗ bigSep Finset.univ fun ck : Dev nD × Cell => reached ER (cell ck.1 ck.2) 0)

instance records_persistent : BI.Persistent (records m ρ K) := by unfold records; infer_instance

omit [FloatOps F] in
theorem inv_at (c : Dev nD) (k : Cell) : records m ρ K ⊢ cellInv ER (Rd m ρ) (K (c, k)) (cell c k) := by
  unfold records
  iintro ⟨#HI, -⟩
  iapply (show (bigSep Finset.univ fun ck : Dev nD × Cell => (cellInv ER (Rd m ρ) (K ck) (cell ck.1 ck.2) : sProp 𝕄))
    ⊢ cellInv ER (Rd m ρ) (K (c, k)) (cell c k) from bigSep_elim (Finset.mem_univ (c, k)))
  iexact HI
omit [FloatOps F] in
theorem reached_at (c : Dev nD) (k : Cell) : records m ρ K ⊢ reached ER (cell c k) 0 := by
  unfold records
  iintro ⟨-, #HR⟩
  iapply (show (bigSep Finset.univ fun ck : Dev nD × Cell => (reached ER (cell ck.1 ck.2) 0 : sProp 𝕄))
    ⊢ reached ER (cell c k) 0 from bigSep_elim (Finset.mem_univ (c, k)))
  iexact HR

/-! ## The hop -/

/-- What a device holds of one hop's semaphores before it: its positions at them, the tokens to pay its own send
    semaphore and the receive semaphore of the device after it, and the credit of its own receive semaphore. -/
def hopGhost (c : Dev nD) (h : Fin 3) : sProp 𝕄 :=
  iprop(atPos ER (cell c (snd h)) 0 ∅ 0 ∗ atPos ER (cell c (rcv h)) 0 ∅ 0
    ∗ dutyTok ER (cell c (snd h)) 0 false ∗ dutyTok ER (cell (nxt c) (rcv h)) 0 false
    ∗ cred (tallyAt (cell c (rcv h)) () N))

/-- The two semaphores of a hop, closed. -/
def hopDone (c : Dev nD) (h : Fin 3) : sProp 𝕄 :=
  iprop(semVal (cell c (snd h)) 0 ∗ semVal (cell c (rcv h)) 0)

omit [FloatOps F] in
theorem pay_snd (c : Dev nD) (h : Fin 3) (d : Bool) : pay m ρ c (snd h) d = slotPts c (back c h.castSucc) (gath m ρ) := rfl
omit [FloatOps F] in
theorem pay_rcv (c : Dev nD) (h : Fin 3) (d : Bool) : pay m ρ c (rcv h) d = slotPts c (back c h.succ) (gath m ρ) := rfl

/-- The transfer of slot `k` from `c` to `nxt c`, off the gathered array. -/
theorem wp_forward (c n : Dev nD) (hn : n = nxt c) (h : Fin 3) (k : Dev nD) (hk : k = back c h.castSucc)
    {hsc : (slotM k : Memref sig (Dev.tc n : Thread nD τ).2.kind .vmem S1024x256 .bf16).view.ref.isScScratch = false}
    {hsrc : (slotM k).view.WordExact} {hdst : (slotM k).view.WordExact}
    {hsem : DmaTarget.Typed .vmem (.dma (xferS true h))
      (.remote (Dev.tc n : Thread nD τ) (slotM k : Memref sig .tc .vmem S1024x256 .bf16) (.dma (xferS false h)) hsc)}
    {α : Type} {Q : α → sProp 𝕄} {kk : PUnit → Prog (TpuEff nD τ sig (Elt F) Λ₀ .tc) α}
    (fn : (cc0_scratch0 : Ref sig .tc).ty.Contents (Elt F)) (W : Waits sig Unit) :
    iprop(cellInv ER (Rd m ρ) (K (c, snd h)) (cell c (snd h)) ∗ cellInv ER (Rd m ρ) (K (nxt c, rcv h)) (cell (nxt c) (rcv h))
        ∗ slotPts c k (gath m ρ) ∗ slotPts (nxt c) k fn
        ∗ owes (c : Thread nD τ) (after c h.castSucc) W
        ∗ dutyTok ER (cell c (snd h)) 0 false ∗ reached ER (cell c (snd h)) 0
        ∗ dutyTok ER (cell (nxt c) (rcv h)) 0 false ∗ reached ER (cell (nxt c) (rcv h)) 0)
      ⊢ iprop(((cred (tallyAt (cell c (snd h)) () N) ∗ owes (c : Thread nD τ) (after c h.succ) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM k) (.remote (Dev.tc n : Thread nD τ) (slotM k) (.dma (xferS false h)) hsc) (.dma (xferS true h)) hsrc hdst hsem) kk) Q) := by
  subst hn
  unfold slotPts
  exact Rounds.wp_send_pointsTo 𝒱₀ ER (Rd m ρ) (c : Thread nD τ) none (κ₁ := K (c, snd h)) (κ₂ := K (nxt c, rcv h))
    (c' := (nxt c : Thread nD τ)) (src := slotM k) (dst := slotM k) (sS := csem (snd h)) (sem := csem (rcv h)) (fs := gath m ρ)
    (r₁ := 0) (r₂ := 0) (d₁ := false) (d₂ := false) (fd := fn)
    (false_duty m ρ c (snd h)) (false_duty m ρ (nxt c) (rcv h))
    () () N (credit_slot k) (amount_cell m ρ c (snd h) false) (amount_cell m ρ (nxt c) (rcv h) false) (after c h.succ) (after_step c h) (W := W)
    (by
      refine BIBase.Entails.trans ?_ (Entails.of_eq (payload_cell m ρ c (snd h) false).symm)
      subst hk; exact BI.Entails.refl _)
    (by
      refine BIBase.Entails.trans ?_ (Entails.of_eq (payload_cell m ρ (nxt c) (rcv h) false).symm)
      rw [pointsTo_congr (write_slot m ρ k fn)]
      show _ ⊢ slotPts (nxt c) (back (nxt c) h.succ) (gath m ρ)
      rw [back_nxt, ← hk]; exact BI.Entails.refl _)

/-- A wait for a transfer of one slot at the device's own semaphore, closed after it. -/
theorem wp_await (c : Dev nD) (x : Bool × Fin 3) {s : DmaSem sig} (hs : s = xferS x.1 x.2) (k k' : Dev nD) (h : Fin 4)
    (hx : lvOf (some (some x)) < 2 + h.val)
    {hsrc : (slotM k).view.WordExact} {hdst : (slotM k').view.WordExact}
    {α : Type} {Q : α → sProp 𝕄} {kk : PUnit → Prog (TpuEff nD τ sig (Elt F) Λ₀ .tc) α} (W : Waits sig Unit) :
    iprop(records m ρ K ∗ levAts L lv ∗ cred (tallyAt (cell c (some x)) () N)
        ∗ owes (c : Thread nD τ) (after c h) W ∗ atPos ER (cell c (some x)) 0 ∅ 0)
      ⊢ iprop(((∃ W', owes (c : Thread nD τ) (after c h) W') ∗ pay m ρ c (some x) false ∗ semVal (cell c (some x)) 0
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s (slotM k) (slotM k') hsrc hdst) kk) Q) := by
  subst hs
  iintro ⟨#HR, #Hlev, Hc, HO, Hat⟩ Hk
  iapply (Rounds.wp_wait_rest_token 𝒱₀ ER (Rd m ρ) (c : Thread nD τ) none (κ := K (c, some x))
      (k' := N) (fun Q' => (wpE_waitDma2_eq 𝒱₀ (c : Thread nD τ) none Set.univ Q').trans (by rw [credit_slot]; rfl)) (Set.mem_univ _) () (O := after c h) (W := W) (R := 0) (m := 0) (T := ∅)
      ((Nat.zero_add _).trans (expect_xfer m ρ c x).symm)) $$ [Hc HO Hat]
  · isplitr; · iapply (inv_at m ρ K c (some x)); iexact HR
    isplitl [Hc]; · iexact Hc
    isplitl [HO]; · iexact HO
    isplitr; · iapply (mayWait_after (F := F) c (some x) h hx); iexact Hlev
    iexact Hat
  iintro ⟨HO, Hat, -, Hpay⟩
  ihave Hp := (Entails.of_eq (rest_xfer m ρ c x)) $$ Hpay
  imod (Rounds.cell_close ER (Rd m ρ) (Set.mem_univ (K (c, some x))) (fun h => h) (R := 0 + 1) (duties_later m ρ (cell c (some x)))) $$ [Hat] with Hz
  · isplitr; · iapply (inv_at m ρ K c (some x)); iexact HR
    iexact Hat
  iapply Hk
  isplitl [HO]; · iexists _; iexact HO
  isplitl [Hp] <;> iassumption

/-- The hop. -/
theorem wp_hop (c n : Dev nD) (hn : n = nxt c) (h : Fin 3) (k : Dev nD) (hk : k = back c h.castSucc)
    {s₁ s₁' s₂ s₂' : DmaSem sig} (h₁ : s₁ = xferS false h) (h₁' : s₁' = xferS false h) (h₂ : s₂ = xferS true h) (h₂' : s₂' = xferS true h)
    {hsc : (slotM k : Memref sig (Dev.tc n : Thread nD τ).2.kind .vmem S1024x256 .bf16).view.ref.isScScratch = false}
    {e₁ e₂ e₃ e₄ e₅ e₆ : (slotM k).view.WordExact}
    {hsem : DmaTarget.Typed .vmem (.dma s₂) (.remote (Dev.tc n : Thread nD τ) (slotM k : Memref sig .tc .vmem S1024x256 .bf16) (.dma s₁) hsc)}
    {α : Type} {Q : α → sProp 𝕄} {kk : PUnit → Prog (TpuEff nD τ sig (Elt F) Λ₀ .tc) α} (W : Waits sig Unit) :
    iprop(records m ρ K ∗ levAts L lv ∗ hopGhost c h ∗ slotPts c k (gath m ρ) ∗ (∃ f, slotPts (nxt c) k f)
        ∗ owes (c : Thread nD τ) (after c h.castSucc) W)
      ⊢ iprop(((∃ W', owes (c : Thread nD τ) (after c h.succ) W') ∗ slotPts c k (gath m ρ) ∗ slotPts c (back c h.succ) (gath m ρ) ∗ hopDone c h
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM k) (.remote (Dev.tc n : Thread nD τ) (slotM k) (.dma s₁) hsc) (.dma s₂) e₁ e₂ hsem)
                fun _ => .op (.waitDma2 s₁' (slotM k) (slotM k) e₃ e₄) fun _ => .op (.waitDma2 s₂' (slotM k) (slotM k) e₅ e₆) kk) Q) := by
  subst h₁ h₂
  unfold hopGhost
  iintro ⟨#HR, #Hlev, ⟨HatS, HatR, HtS, HtR, HcR⟩, Hsrc, ⟨%fn, Hdst⟩, HO⟩ Hk
  iapply (wp_forward m ρ K c n hn h k hk fn W) $$ [HtS HtR Hsrc Hdst HO]
  · isplitr; · iapply (inv_at m ρ K c (snd h)); iexact HR
    isplitr; · iapply (inv_at m ρ K (nxt c) (rcv h)); iexact HR
    isplitl [Hsrc]; · iexact Hsrc
    isplitl [Hdst]; · iexact Hdst
    isplitl [HO]; · iexact HO
    isplitl [HtS]; · iexact HtS
    isplitr; · iapply (reached_at m ρ K c (snd h)); iexact HR
    isplitl [HtR]; · iexact HtR
    iapply (reached_at m ρ K (nxt c) (rcv h)); iexact HR
  iintro ⟨HcS, HO⟩
  iapply (wp_await m ρ K c (false, h) h₁' k k h.succ (by show 0 < 2 + (h.val + 1); omega) W) $$ [HcS HO HatS]
  · isplitr; · iexact HR
    isplitr; · iexact Hlev
    isplitl [HcS]; · iexact HcS
    isplitl [HO] <;> iassumption
  iintro ⟨⟨%W₁, HO⟩, Hpay, HzS⟩
  ihave Hsrc := (Entails.of_eq (pay_snd m ρ c h false)) $$ Hpay
  iapply (wp_await m ρ K c (true, h) h₂' k k h.succ (by show 2 + h.val < 2 + (h.val + 1); omega) W₁) $$ [HcR HO HatR]
  · isplitr; · iexact HR
    isplitr; · iexact Hlev
    isplitl [HcR]; · iexact HcR
    isplitl [HO] <;> iassumption
  iintro ⟨HO, Hpay, HzR⟩
  ihave Hdst := (Entails.of_eq (pay_rcv m ρ c h false)) $$ Hpay
  iapply Hk
  isplitl [HO]; · iexact HO
  isplitl [Hsrc]
  · rw [hk]; iexact Hsrc
  isplitl [Hdst]; · iexact Hdst
  unfold hopDone
  isplitl [HzS] <;> iassumption

end Cert.RingSort

end
-- ==== Proof.Body.lean ====
/-
# The kernel's body on one device

The body is run once, on a device `c` that stays a name. It lends the device before it the three slots that one
writes, stores its own block, makes the three hops, joins the four slots to the gathered array, and writes out its own
block of the sorted array.
-/
module

public import proofs.«01_k».proof.Proof.Hop

@[expose] public section

noncomputable section

namespace Cert.RingSort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Slots and the whole array -/

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The gather array is its four slots, from the device's own on. -/
theorem slots_eq (c : Dev nD) (f : (cc0_scratch0 : Ref sig .tc).ty.Contents (Elt F)) :
    (((c : Thread nD τ).loc cc0_scratch0) ↦{fullShare} f : sProp 𝕄)
      = iprop(slotPts c (back c 0) f ∗ slotPts c (back c 1) f ∗ slotPts c (back c 2) f ∗ slotPts c (back c 3) f) := by
  refine (Ring.pointsTo_blocks (ℓ := (c : Thread nD τ).loc cc0_scratch0) slotSet slot_disjoint slot_cover f).trans ?_
  rw [bigSep_univ_equiv (behind c)]
  exact bigSep_univ_eq_bigSepL [0, 1, 2, 3] (by decide) (by decide) _

omit [FloatOps F] in
/-- A device lends the device before it all its slots but its own. -/
theorem lend (c : Dev nD) (f : (cc0_scratch0 : Ref sig .tc).ty.Contents (Elt F)) :
    (((c : Thread nD τ).loc cc0_scratch0) ↦{fullShare} f : sProp 𝕄) ⊢ iprop(slotPts c (back c 0) f ∗ lent (prv c)) := by
  have hb : ∀ h : Fin 3, back (prv c) h.castSucc = back c h.succ := fun h => by
    have := back_nxt (prv c) h
    rw [nxt_prv] at this
    exact this.symm
  rw [slots_eq]
  unfold lent
  rw [bigSep_fin3, nxt_prv, hb 0, hb 1, hb 2]
  iintro ⟨H0, H1, H2, H3⟩
  isplitl [H0]; · iexact H0
  isplitl [H1]; · iexists f; iexact H1
  isplitl [H2]; · iexists f; iexact H2
  iexists f; iexact H3

/-! ## Loads and stores -/

variable (m : (ℓ : Loc nD τ sig) → Buf (Elt F) ℓ) (ρ : Dev nD → PrngReg) (K : Dev nD × Cell → ℕ)

/-- A load of slot `k` from elements that hold it. -/
theorem wp_load_slot (c k : Dev nD) {off : Fin 2 → Nat} (hoff : off = slotOff k) {inb}
    {hl : gM.view.LoadsAt (Rect.unit (s := S4096x256) off S1024x256.size inb).toLoadRect}
    {α : Type} {Q : α → sProp 𝕄} {kk : Vec F S1024x256 .bf16 → Prog (TpuEff nD τ sig (Elt F) Λ₀ .tc) α}
    {S : Finset S4096x256.Idx} (hS : slotSet k ⊆ S) (f : (cc0_scratch0 : Ref sig .tc).ty.Contents (Elt F)) :
    (((c : Thread nD τ).loc cc0_scratch0) ↦[S]{fullShare} f : sProp 𝕄)
      ⊢ iprop(((((c : Thread nD τ).loc cc0_scratch0) ↦[S]{fullShare} f)
            -∗ wp frame (wpE (defs₀ (F := F)) 𝒱₀ (c : Thread nD τ) none) Set.univ (kk ((slotM k).view.read (Elt F) f)) Q)
          -∗ wp frame (wpE (defs₀ (F := F)) 𝒱₀ (c : Thread nD τ) none) Set.univ
              (.op (.load gM (Rect.unit (s := S4096x256) off S1024x256.size inb).toLoadRect hl) kk) Q) := by
  subst hoff
  exact wp_load_rect 𝒱₀ (c : Thread nD τ) none Set.univ (m := gM) (r := slotR k) (S := S) hS

/-- A store of device `k`'s block into slot `k`. -/
theorem wp_store_slot (c k : Dev nD) {off : Fin 2 → Nat} (hoff : off = slotOff k) {inb}
    {w : Vec F S1024x256 .bf16} (hw : w = xstg m ρ k)
    {hx : (gM.access (Rect.unit (s := S4096x256) off S1024x256.size inb)).Stores Finset.univ}
    {hm : (Finset.univ : Finset S1024x256.Idx) = Finset.univ ∨ ∀ a, (Rect.unit (s := S4096x256) off S1024x256.size inb).stride a = 1}
    {α : Type} {Q : α → sProp 𝕄} {kk : PUnit → Prog (TpuEff nD τ sig (Elt F) Λ₀ .tc) α}
    (f : (cc0_scratch0 : Ref sig .tc).ty.Contents (Elt F)) :
    slotPts c k f
      ⊢ iprop((slotPts c k (gath m ρ)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.store gM (Rect.unit (s := S4096x256) off S1024x256.size inb) w Finset.univ hx hm) kk) Q) := by
  subst hoff
  subst hw
  have hc : slotPts c k (gath m ρ) = (((c : Thread nD τ).loc cc0_scratch0)
      ↦[slotSet k]{fullShare} ((gM.access (slotR k)).write (Elt F) f (xstg m ρ k) Finset.univ) : sProp 𝕄) := by
    unfold slotPts
    rw [← read_gath m ρ k]
    exact (pointsTo_congr (write_slot m ρ k f)).symm
  rw [hc]
  exact wp_store 𝒱₀ (c : Thread nD τ) none Set.univ (m := gM) (r := slotR k) (S := slotSet k) (f := f) (Finset.Subset.refl _)

omit [FloatOps F] in
theorem zeros : (![0, 0] : Fin 2 → Nat) = fun _ => 0 := funext fun a => by fin_cases a <;> rfl

/-- The whole of the gather array, as the kernel spells it, and of the output's staging buffer. -/
abbrev allR : Rect S4096x256 := Rect.unit (s := S4096x256) ![0, 0] S4096x256.size inb_S4096x256_S4096x256_0_0
abbrev outR : Rect S1024x256 := Rect.unit (s := S1024x256) ![0, 0] S1024x256.size inb_S1024x256_S1024x256_0_0

/-- The array read whole, sorted and stored whole. -/
theorem sort_whole (f : (cc0_scratch0 : Ref sig .tc).ty.Contents (Elt F)) :
    (gM.access allR).write (Elt F) f
        (shapeCast S4096x256 (network (gM.view.readAt (Elt F) allR.toLoadRect f)) shapeCasts_S4096x256_S4096x256) Finset.univ
      = network f :=
  (Memref.write_access_unit_zero_univ (Elt F) cc0_scratch0 zeros _ _ _).trans
    ((shapeCast_self _ _).trans (congrArg network (Memref.readAt_unit_zero (Elt F) cc0_scratch0 zeros _ f)))

omit [FloatOps F] in
theorem write_out (f w : (cc0_stg1_0 : Ref sig .tc).ty.Contents (Elt F)) :
    (oM.access outR).write (Elt F) f w Finset.univ = w :=
  Memref.write_access_unit_zero_univ (Elt F) cc0_stg1_0 zeros _ f w

theorem pay3_eq (v : Vec F S1024x256 .bf16) : k0_pay3 v = v := by
  unfold k0_pay3
  exact (shapeCast_self _ _).trans (shapeCast_self _ _)

omit [FloatOps F] in
theorem bar_pay (c : Dev nD) (d : Bool) : pay m ρ c bar d ⊢ (Rd m ρ).payload ((c : Thread nD τ), .reg barS) 0 d :=
  Entails.of_eq (payload_cell m ρ c bar d).symm

/-! ## Before and after -/

/-- What device `c` writes out: its own block of the sorted array, widened. -/
def outAt (c : Dev nD) : (cc0_stg1_0 : Ref sig .tc).ty.Contents (Elt F) :=
  k0_pay2 ((slotM (back c 0)).view.read (Elt F) (network (gath m ρ)))

/-- The ring's ghost state device `c` starts from. -/
def ghost (c : Dev nD) : sProp 𝕄 :=
  iprop(records m ρ K ∗ atPos ER (cell c bar) 0 ∅ 0
    ∗ dutyTok ER (cell (prv c) bar) 0 true ∗ dutyTok ER (cell (nxt c) bar) 0 false
    ∗ cred (tallyAt (cell c bar) () 2) ∗ bigSep Finset.univ (hopGhost (F := F) c))

/-- What device `c`'s body starts from, beside its gather array. -/
def start (c : Dev nD) : sProp 𝕄 := iprop((∃ K, ghost m ρ K c) ∗ levAts L lv)

def Φ₀ (c : Dev nD) : sProp 𝕄 :=
  iprop(start m ρ c ∗ ∃ f : (cc0_scratch0 : Ref sig .tc).ty.Contents (Elt F), (((c : Thread nD τ).loc cc0_scratch0) ↦{fullShare} f))
/-- Afterwards the gather array holds the sorted array, and the ring's semaphores are closed. -/
def Φ₁ (c : Dev nD) : sProp 𝕄 :=
  iprop((((c : Thread nD τ).loc cc0_scratch0) ↦{fullShare} (network (gath m ρ) : (cc0_scratch0 : Ref sig .tc).ty.Contents (Elt F)))
    ∗ semVal (cell c bar) 0 ∗ bigSep Finset.univ (hopDone (F := F) c))

/-- The proof data of the launch's one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

/-! ## The run -/

set_option maxHeartbeats 1600000 in
set_option maxRecDepth 8000 in
/-- The body, one rule an effect, one lemma a hop. -/
theorem sound_body (c : Dev nD) :
    bodyPre m ρ c
      ⊢ wp frame (wpE (defs₀ (F := F)) 𝒱₀ (c : Thread nD τ) none) Set.univ
          (cc0_body xM (Memref.isWhole_whole _) oM (Memref.isWhole_whole _) gM (Memref.isWhole_whole _) cc0_scratch1 cc0_scratch2)
          (fun _ => bodyPost m ρ c) := by
  rw [body_eq]
  unfold sortBody
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  simp only [slice_eq (off2_0 c), slice_eq (off2_1 c), slice_eq (off2_2 c), dev1_eq c, dev2_eq c, dev3_eq c, dev4_eq c, dev5_eq c]
  unfold bodyPre Φ₀ start ghost
  iintro ⟨⟨⟨⟨%K, #HR, HatB, HtP, HtN, HcB, Hhops⟩, #Hlev⟩, ⟨%f0, Hscr⟩⟩, Ho, ⟨%d0, %g0, %hg0, Hx⟩, ⟨%d1, %g1, %hg1, Hout⟩⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  ihave Hs := (lend c f0) $$ Hscr
  icases Hs with ⟨Hown, Hlent⟩
  -- the first signal, to the device before: the slots it writes here
  iapply (Rounds.wp_signal 𝒱₀ ER (Rd m ρ) (c : Thread nD τ) none (dst := (prv c : Thread nD τ)) (κ := K (prv c, bar))
      (d := true) (true_duty m ρ (prv c)) ((amount_cell m ρ (prv c) bar true).trans (by decide)) () (O₁ c) rfl) $$ [HO HtP Hlent]
  · isplitr; · iapply (inv_at m ρ K (prv c) bar); iexact HR
    isplitl [HO]; · iexact HO
    isplitl [HtP]; · iexact HtP
    isplitl [Hlent]
    · iapply (show lent (prv c) ⊢ _ from bar_pay m ρ (prv c) true); iexact Hlent
    iapply (reached_at m ρ K (prv c) bar); iexact HR
  iintro HO
  -- the second, to the device after: nothing with it
  unfold O₁
  iapply (Rounds.wp_signal 𝒱₀ ER (Rd m ρ) (c : Thread nD τ) none (dst := (nxt c : Thread nD τ)) (κ := K (nxt c, bar))
      (d := false) (false_duty m ρ (nxt c) bar) ((amount_cell m ρ (nxt c) bar false).trans (by decide)) () (rem c 3) rfl) $$ [HO HtN]
  · isplitr; · iapply (inv_at m ρ K (nxt c) bar); iexact HR
    isplitl [HO]; · iexact HO
    isplitl [HtN]; · iexact HtN
    isplitr
    · iapply (bar_pay m ρ (nxt c) false); iempintro
    iapply (reached_at m ρ K (nxt c) bar); iexact HR
  iintro HO
  -- the wait for both neighbours: the slots of the device after come with it
  iapply (Rounds.wp_wait_rest_token 𝒱₀ ER (Rd m ρ) (c : Thread nD τ) none (κ := K (c, bar)) (sm := csem bar)
      (wpE_semWait_eq 𝒱₀ (c : Thread nD τ) none Set.univ) (Set.mem_univ _) () (O := rem c 3) (W := W) (R := 0) (m := 0) (T := ∅)
      ((by decide : 0 + (2#32).toNat = 2).trans (expect_bar m ρ c).symm)) $$ [HcB HO HatB]
  · isplitr; · iapply (inv_at m ρ K c bar); iexact HR
    isplitl [HcB]; · iexact HcB
    isplitl [HO]; · iexact HO
    isplitr; · iapply (mayWait_after (F := F) c bar 0 (by decide)); iexact Hlev
    iexact HatB
  iintro ⟨HO, HatB, -, Hpay⟩
  ihave Hp := (Entails.of_eq (rest_bar m ρ c)) $$ Hpay
  icases Hp with ⟨-, Hl⟩
  ihave Hl := (show lent c ⊢ _ from Entails.of_eq (bigSep_fin3 _)) $$ Hl
  icases Hl with ⟨HL0, HL1, HL2⟩
  ihave Hhops := (Entails.of_eq (bigSep_fin3 (hopGhost (F := F) c))) $$ Hhops
  icases Hhops with ⟨Hh0, Hh1, Hh2⟩
  imod (Rounds.cell_close ER (Rd m ρ) (Set.mem_univ (K (c, bar))) (fun h => h) (R := 0 + 1) (duties_later m ρ (cell c bar))) $$ [HatB] with HzB
  · isplitr; · iapply (inv_at m ρ K c bar); iexact HR
    iexact HatB
  -- the device's own block into its own slot
  iapply (wp_load 𝒱₀ (c : Thread nD τ) none Set.univ (m := xM) (Finset.subset_univ _)) $$ Hx; iintro Hx
  ihave Hown := (show slotPts c (back c 0) f0 ⊢ (((c : Thread nD τ).loc cc0_scratch0) ↦[slotSet (back c 0)]{fullShare} f0) from BI.Entails.refl _) $$ Hown
  iapply (wp_load_slot c (back c 0) (off1_eq c) (Finset.Subset.refl _) f0) $$ Hown; iintro Hown
  ihave Hown := (show (((c : Thread nD τ).loc cc0_scratch0) ↦[slotSet (back c 0)]{fullShare} f0) ⊢ slotPts c (back c 0) f0 from BI.Entails.refl _) $$ Hown
  iapply (wp_store_slot m ρ c (back c 0) (off1_eq c) (by
    rw [pay3_eq, back_zero]; exact Memref.readAt_unit_zero (Elt F) cc0_stg0_0 zeros _ _) f0) $$ Hown; iintro Hown
  -- the three hops
  iapply (wp_hop m ρ K c _ (dev3_eq c) 0 _ rfl (by decide) (by decide) (by decide) (by decide) _) $$ [Hh0 Hown HL0 HO]
  · isplitr; · iexact HR
    isplitr; · iexact Hlev
    isplitl [Hh0]; · iexact Hh0
    isplitl [Hown]; · iexact Hown
    isplitl [HL0]; · iexact HL0
    iexact HO
  iintro ⟨⟨%W₁, HO⟩, H0, H1, Hz0⟩
  iapply (wp_hop m ρ K c _ (dev4_eq c) 1 _ rfl (by decide) (by decide) (by decide) (by decide) W₁) $$ [Hh1 H1 HL1 HO]
  · isplitr; · iexact HR
    isplitr; · iexact Hlev
    isplitl [Hh1]; · iexact Hh1
    isplitl [H1]; · iexact H1
    isplitl [HL1]; · iexact HL1
    iexact HO
  iintro ⟨⟨%W₂, HO⟩, H1, H2, Hz1⟩
  iapply (wp_hop m ρ K c _ (dev5_eq c) 2 _ rfl (by decide) (by decide) (by decide) (by decide) W₂) $$ [Hh2 H2 HL2 HO]
  · isplitr; · iexact HR
    isplitr; · iexact Hlev
    isplitl [Hh2]; · iexact Hh2
    isplitl [H2]; · iexact H2
    isplitl [HL2]; · iexact HL2
    iexact HO
  iintro ⟨⟨%W₃, HO⟩, H2, H3, Hz2⟩
  -- the whole gathered array, sorted
  ihave Hall := (Entails.of_eq (slots_eq c (gath m ρ)).symm) $$ [H0 H1 H2 H3]
  · isplitl [H0]; · iexact H0
    isplitl [H1]; · iexact H1
    isplitl [H2]; · iexact H2
    iexact H3
  iapply (wp_load 𝒱₀ (c : Thread nD τ) none Set.univ (m := gM) (Finset.subset_univ _)) $$ Hall; iintro Hall
  iapply (wp_load 𝒱₀ (c : Thread nD τ) none Set.univ (m := gM) (Finset.subset_univ _)) $$ Hall; iintro Hall
  iapply (wp_store 𝒱₀ (c : Thread nD τ) none Set.univ (m := gM) (r := allR) (Mk := Finset.univ) (Finset.subset_univ _)) $$ Hall; iintro Hall
  ihave Hall := (Entails.of_eq (congrArg (fun f => (((c : Thread nD τ).loc cc0_scratch0) ↦{fullShare} f : sProp 𝕄)) (sort_whole (gath m ρ)))) $$ Hall
  iapply (wp_load_slot c (back c 0) (off1_eq c) (Finset.subset_univ _) (network (gath m ρ))) $$ Hall; iintro Hall
  -- the device's own block of it, out
  iapply (wp_load 𝒱₀ (c : Thread nD τ) none Set.univ (m := oM) (Finset.subset_univ _)) $$ Hout; iintro Hout
  iapply (wp_store 𝒱₀ (c : Thread nD τ) none Set.univ (m := oM) (r := outR) (Mk := Finset.univ) (Finset.subset_univ _)) $$ Hout; iintro Hout
  rw [write_out, wp_ret]; imodintro
  unfold bodyPost Φ₁ Dat.owesAt Pipeline.owesWithin
  rw [show (dats m ρ 0 c).owed t0_0.succ = 0 from rfl, bigSep_fin3]
  isplitl [Hall HzB Hz0 Hz1 Hz2]
  · isplitl [Hall]; · iexact Hall
    isplitl [HzB]; · iexact HzB
    isplitl [Hz0]; · iexact Hz0
    isplitl [Hz1] <;> iassumption
  isplitl [HO]
  · iexists W₃
    isplitr; · ipureintro; exact fun _ _ => Or.inl trivial
    iexact HO
  isplitl [Hx]
  · iexists _; isplitr; · (ipureintro; rfl)
    iexact Hx
  iexists _; isplitr; · (ipureintro; rfl)
  iexact Hout

end Cert.RingSort

end
-- ==== Proof.Launch.lean ====
/-
# The launch

The ring's ghost state is made, dealt to the devices and handed around the ring; then the launch theorem of the library
turns the body's run into a run of the whole program.
-/
module

public import proofs.«01_k».proof.Proof.Body
public import Idealize.ShloMosaic.Lib.Pipeline.CollectiveSegs

@[expose] public section

noncomputable section

namespace Cert.RingSort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-- The transfer semaphores are the kernel's own. -/
abbrev osem (x : Bool × Fin 3) : SemLoc sig := csem (some x)

theorem ownSemFacts : Pipeline.OwnSemFacts cfg0.spec osem := by decide

theorem share_eq (c : Dev nD) (w : Fin cfg0.W) : (dats m ρ 0 c).share w = fullShare := by
  unfold Dat.share; split <;> rfl

/-! ## Sums over a device's semaphores -/

omit [FloatOps F] in
/-- A device's semaphores are the barrier and the transfers'. -/
theorem cells_split (Φ : Cell → sProp 𝕄) :
    bigSep Finset.univ Φ = iprop(Φ bar ∗ bigSep Finset.univ fun x : Bool × Fin 3 => Φ (some x)) := by
  rw [bigSep_univ_at Φ bar,
    show (Finset.univ : Finset Cell).erase bar = Finset.univ.map ⟨some, Option.some_injective (Bool × Fin 3)⟩ by decide, bigSep_map]
  rfl

omit [FloatOps F] in
/-- The transfers' semaphores are two a hop. -/
theorem xfers_split (Ψ : Bool × Fin 3 → sProp 𝕄) :
    bigSep Finset.univ Ψ = bigSep Finset.univ fun h : Fin 3 => iprop(Ψ (false, h) ∗ Ψ (true, h)) := by
  rw [bigSep_univ_prod, bigSep_sep']
  exact bigSep_univ_eq_bigSepL [false, true] (by decide) (by decide) _

/-! ## The ring's ghost state -/

abbrev cellOn (ck : Dev nD × Cell) : GSem nD τ sig := cell ck.1 ck.2

theorem cellOn_injective : Function.Injective cellOn := fun a b h => Prod.ext (cell_inj h).1 (cell_inj h).2

/-- All semaphores of the ring. -/
def ringCells : Finset (GSem nD τ sig) := Finset.univ.map ⟨cellOn, cellOn_injective⟩

/-- The duties of device `c`'s semaphores: `false` at each, and the barrier's `true`. -/
abbrev tokOf (cj : Dev nD × (Unit ⊕ Cell)) : GSem nD τ sig × ℕ × Bool := match cj.2 with
  | .inl _ => (cell cj.1 bar, 0, true)
  | .inr k => (cell cj.1 k, 0, false)

theorem tokOf_injective : Function.Injective tokOf := by
  rintro ⟨c, j⟩ ⟨c', j'⟩ h
  have h1 := cell_inj (k := match j with | .inl _ => bar | .inr k => k) (k' := match j' with | .inl _ => bar | .inr k => k)
    (c := c) (c' := c') (by have := congrArg Prod.fst h; cases j <;> cases j' <;> exact this)
  have h2 := congrArg (fun x : GSem nD τ sig × ℕ × Bool => x.2.2) h
  obtain ⟨rfl, h1⟩ := h1
  rcases j with j | j <;> rcases j' with j' | j'
  · rfl
  · exact Bool.noConfusion h2
  · exact Bool.noConfusion h2
  · exact congrArg _ (congrArg _ h1)

def ringToks : Finset (GSem nD τ sig × ℕ × Bool) := Finset.univ.map ⟨tokOf, tokOf_injective⟩

/-- The launch's ghost state: the pipeline's and the ring's. -/
def u₀ : UU :=
  (initOf (Pipeline.cells cfgs cellOf_inj) (Pipeline.launchToks cfgs cellOf_inj), initOf ringCells ringToks)

/-- The tokens of the duties at device `c`'s semaphores, -/
def toks (c : Dev nD) : sProp 𝕄 :=
  iprop(dutyTok ER (cell c bar) 0 true ∗ bigSep Finset.univ fun k : Cell => dutyTok ER (cell c k) 0 false)
/-- and of the duties that it pays. -/
def payToks (c : Dev nD) : sProp 𝕄 :=
  iprop(dutyTok ER (cell (prv c) bar) 0 true ∗ dutyTok ER (cell (nxt c) bar) 0 false
    ∗ bigSep Finset.univ fun h : Fin 3 => iprop(dutyTok ER (cell c (snd h)) 0 false ∗ dutyTok ER (cell (nxt c) (rcv h)) 0 false))

/-- A device's semaphores as they are made: their states, its positions at them and their tokens. -/
def G (c : Dev nD) : sProp 𝕄 :=
  iprop((bigSep Finset.univ fun k : Cell => roundState ER (Rd m ρ) (cell c k) 0)
    ∗ (bigSep Finset.univ fun k : Cell => iprop(atPos ER (cell c k) 0 ∅ 0 ∗ reached ER (cell c k) 0)) ∗ toks c)

/-- What only device `c` holds once the tokens are dealt. -/
def linear (c : Dev nD) : sProp 𝕄 :=
  iprop((bigSep Finset.univ fun k : Cell => atPos ER (cell c k) 0 ∅ 0) ∗ payToks c)

/-- What device `c` holds then. -/
def G' (c : Dev nD) : sProp 𝕄 := iprop(∃ K, records m ρ K ∗ linear c)

omit [FloatOps F] in
theorem fund_ring : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun k : Cell => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum]
    exact congrArg (fun P : sProp 𝕄 => iprop(P ∗ _)) (bigSep_univ_of_subsingleton ())
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## From counters at zero to invariants -/

omit [FloatOps F] in
/-- The barrier is the one semaphore outside the kernel's scope. -/
theorem unscopedSems0_eq (c : Dev nD) : (unscopedSems0 c : sProp 𝕄) = semVal (cell c bar) 0 := by
  unfold unscopedSems0; rw [bigSep_eq_bigSepL_of_eq [SemLoc.reg barS] (by decide) (by decide)]; rfl

omit [FloatOps F] in
/-- All counters of a device's ring semaphores, at zero. -/
theorem sems0_eq (c : Dev nD) :
    (bigSep Finset.univ fun k : Cell => (semVal (cell c k) 0 : sProp 𝕄))
      = iprop(unscopedSems0 c ∗ Pipeline.ownSems0 (Ix := Unit) (Name := ℕ) (U := UU) (Lvl := ℕ) (Val := Elt F) (τ := τ) osem c) := by
  rw [cells_split, unscopedSems0_eq]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (Rd m ρ) κ (cell c k)))
          ∗ (bigSep Finset.univ fun k : Cell => iprop(atPos ER (cell c k) 0 ∅ 0 ∗ reached ER (cell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cell => semVal (cell c k) 0) ∗ bigSep Finset.univ fun k : Cell => roundState ER (Rd m ρ) (cell c k) 0)
      ⊢ (|={Set.univ}=> bigSep Finset.univ fun k : Cell => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, dealt around the ring -/

omit [FloatOps F] in
theorem toks_around : (bigSep Finset.univ fun c : Dev nD => (toks c : sProp 𝕄)) ⊢ bigSep Finset.univ fun c : Dev nD => payToks c := by
  unfold toks payToks
  simp only [cells_split, xfers_split, bigSep_sep']
  rw [bigSep_univ_equiv ring.symm (fun c : Dev nD => (dutyTok ER (cell c bar) 0 true : sProp 𝕄)),
    bigSep_univ_equiv ring (fun c : Dev nD => (dutyTok ER (cell c bar) 0 false : sProp 𝕄)),
    bigSep_univ_equiv ring (fun c : Dev nD => bigSep Finset.univ fun h : Fin 3 => (dutyTok ER (cell c (rcv h)) 0 false : sProp 𝕄))]
  exact BI.Entails.refl _

omit [FloatOps F] in
theorem regroup :
    (bigSep Finset.univ fun c : Dev nD => iprop((bigSep Finset.univ fun k : Cell => iprop(∃ κ : ℕ, cellInv ER (Rd m ρ) κ (cell c k)))
          ∗ (bigSep Finset.univ fun k : Cell => iprop(atPos ER (cell c k) 0 ∅ 0 ∗ reached ER (cell c k) 0)) ∗ toks c) : sProp 𝕄)
      ⊢ bigSep Finset.univ (G' m ρ) := by
  have hdeal (K : Dev nD × Cell → ℕ) : iprop(records m ρ K ∗ bigSep Finset.univ (linear (F := F))) ⊢ bigSep Finset.univ (G' m ρ) :=
    (sep_mono_left (BI.bigSep_of_persistent Finset.univ (records m ρ K))).trans (by
      rw [← bigSep_sep']
      refine bigSep_mono fun c _ => ?_
      show iprop(records m ρ K ∗ linear c) ⊢ G' m ρ c
      unfold G'
      iintro H
      iexists K
      iexact H)
  simp only [bigSep_sep']
  rw [← bigSep_univ_prod (fun ck : Dev nD × Cell => iprop(∃ κ : ℕ, cellInv ER (Rd m ρ) κ (cell ck.1 ck.2))),
    ← bigSep_univ_prod (fun ck : Dev nD × Cell => (reached ER (cell ck.1 ck.2) 0 : sProp 𝕄))]
  iintro ⟨HI, ⟨Hat, #HR⟩, Htok⟩
  ihave HK := (BI.bigSep_exists_pi Finset.univ (fun (ck : Dev nD × Cell) (κ : ℕ) => (cellInv ER (Rd m ρ) κ (cell ck.1 ck.2) : sProp 𝕄))) $$ HI
  icases HK with ⟨%K, #HI⟩
  ihave Htk := (toks_around (F := F)) $$ Htok
  iapply (hdeal K)
  isplitr
  · unfold records; isplitl; · iexact HI
    iexact HR
  · unfold linear
    rw [bigSep_sep']
    isplitl [Hat]; · iexact Hat
    iexact Htk

omit [FloatOps F] in
/-- From all devices' counters and ghost state to what each starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- What each semaphore of a device is owed in all. -/
def dueAt : Cell → ℕ
  | none => 2
  | some (false, _) => 0
  | some (true, _) => N

theorem tally_cell (d c : Dev nD) (j k : Cell) (n : ℕ) :
    (tallyAt (cell d j) () n : CellTallies nD τ sig Unit) (cell c k) () = if d = c then (if k = j then n else 0) else 0 := by
  rw [tallyAt_apply]
  by_cases h : d = c
  · subst h
    rw [if_pos rfl]
    exact if_congr ⟨fun h' => (cell_inj h'.1).2, fun h' => ⟨by rw [h'], rfl⟩⟩ rfl rfl
  · rw [if_neg h, if_neg fun h' => h (cell_inj h'.1).1.symm]

/-- What device `d` owes device `c`: the receives if `c` comes after `d`, the barrier if they are neighbours. -/
theorem owed_at (d c : Dev nD) (k : Cell) :
    O₀ d (cell c k) () = (if d = prv c then dueAt k - (if k = bar then 1 else 0) else 0) + (if d = nxt c then (if k = bar then 1 else 0) else 0) := by
  have hn : (nxt d = c) = (d = prv c) := propext ⟨fun h => by rw [← h, prv_nxt], fun h => by rw [h, nxt_prv]⟩
  have hp : (prv d = c) = (d = nxt c) := propext ⟨fun h => by rw [← h, nxt_prv], fun h => by rw [h, prv_nxt]⟩
  unfold O₀ O₁ rem rem rem rem
  simp only [Pi.add_apply, Finsupp.add_apply, Pi.zero_apply, Finsupp.zero_apply, tally_cell, hn, hp]
  congr 1
  by_cases h : d = prv c
  · simp only [if_pos h]
    match k with
    | none => rfl
    | some (false, x) => fin_cases x <;> rfl
    | some (true, x) => fin_cases x <;> simp [dueAt, rcv, bar] <;> decide
  · simp only [if_neg h]

theorem launch_at (c : Dev nD) (k : Cell) :
    tallyOn (cell c k) (launchCredit (Pipeline.owing O₀) 0 (cell c k)) = (tallyAt (cell c k) () (dueAt k) : CellTallies nD τ sig Unit) := by
  unfold tallyAt; refine congrArg _ (Finsupp.ext fun u => ?_); cases u
  rw [Pipeline.launchCredit_owing, Finsupp.single_eq_same, Finset.sum_congr rfl fun d _ => owed_at d c k, Finset.sum_add_distrib,
    Finset.sum_ite_eq', Finset.sum_ite_eq', if_pos (Finset.mem_univ _), if_pos (Finset.mem_univ _)]
  match k with
  | none => rfl
  | some (false, _) => rfl
  | some (true, _) => rfl

omit [FloatOps F] in
/-- The launch's credit at the ring's semaphores. -/
theorem creds (c : Dev nD) :
    (Pipeline.launchCred O₀ c : sProp 𝕄)
      ⊢ iprop(cred (tallyAt (cell c bar) () 2) ∗ bigSep Finset.univ fun h : Fin 3 => cred (tallyAt (cell c (rcv h)) () N)) := by
  have hsub : (bigSep Finset.univ fun sm : SemLoc sig => (cred (tallyOn ((c : Thread nD τ), sm) (launchCredit (Pipeline.owing O₀) 0 ((c : Thread nD τ), sm))) : sProp 𝕄))
      ⊢ bigSep Finset.univ fun k : Cell => cred (tallyAt (cell c k) () (dueAt k)) := by
    refine (bigSep_subset (Finset.subset_univ (Finset.univ.map ⟨csem, fun a b h => (cell_inj (c := c) (c' := c) (congrArg (Prod.mk (c : Thread nD τ)) h)).2⟩))).trans ?_
    rw [bigSep_map]
    exact bigSep_mono fun k _ => Entails.of_eq (congrArg cred (launch_at c k))
  refine hsub.trans ?_
  rw [cells_split]
  refine sep_mono_right ?_
  rw [xfers_split]
  refine bigSep_mono fun h _ => ?_
  show iprop(_ ∗ cred (tallyAt (cell c (rcv h)) () N)) ⊢ cred (tallyAt (cell c (rcv h)) () N)
  exact sep_elim_right

/-! ## The launch theorem's side conditions -/

theorem ghost_intro (K : Dev nD × Cell → ℕ) (c : Dev nD) :
    iprop(records m ρ K ∗ linear c ∗ cred (tallyAt (cell c bar) () 2)
        ∗ bigSep Finset.univ fun h : Fin 3 => cred (tallyAt (cell c (rcv h)) () N)) ⊢ ghost m ρ K c := by
  unfold linear payToks ghost hopGhost
  simp only [cells_split, xfers_split, bigSep_sep']
  iintro ⟨HR, ⟨⟨HatB, HatS, HatV⟩, HtP, HtN, HtS, HtV⟩, HcB, HcV⟩
  isplitl [HR]; · iexact HR
  isplitl [HatB]; · iexact HatB
  isplitl [HtP]; · iexact HtP
  isplitl [HtN]; · iexact HtN
  isplitl [HcB]; · iexact HcB
  isplitl [HatS]; · iexact HatS
  isplitl [HatV]; · iexact HatV
  isplitl [HtS]; · iexact HtS
  isplitl [HtV] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, ⟨%K, HR, Hl⟩⟩
  ihave Hc := (creds (F := F) c) $$ Hcr
  imodintro
  isplitl
  · isplitl [HR Hl Hc]
    · iexists K
      iapply (ghost_intro m ρ K c)
      isplitl [HR]; · iexact HR
      isplitl [Hl]; · iexact Hl
      iexact Hc
    · iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  have hd : bigSep Finset.univ (hopDone (F := F) c) ⊢ Pipeline.ownSems0 osem c :=
    Entails.of_eq (xfers_split fun x => semVal (cell c (some x)) 0).symm
  unfold Φ₁
  iintro ⟨Hr, HzB, Hz⟩
  isplitl [HzB]; · iexact HzB
  isplitl [Hz]; · iapply hd; iexact Hz
  iexists _; iexact Hr

theorem waits (c : Dev nD) : (levAts L lv : sProp 𝕄) ⊢ Pipeline.cellsWaits cfgs (dats m ρ) () 0 c :=
  Pipeline.cellsWaits_intro cfgs (dats m ρ) () 0 c fun w s t => by
    refine mayWait c _ _ fun g u hg => ?_
    rcases t with ⟨_ | _, ht⟩
    · obtain ⟨d, k, hk, hl⟩ := O₀_pos hg
      exact ⟨d, k, hk, by rw [show lvOf (cellIx _) = 0 by fin_cases w <;> fin_cases s <;> decide]; exact hl⟩
    · exact absurd hg (Nat.lt_irrefl 0)

/-! ## The run -/

/-- What the run leaves of window `w`'s array on device `c`. -/
def finalA (c : Dev nD) (w : Fin cfg0.W) : Buf (Elt F) ((cfg0.win w).arr.view.loc (c : Thread nD τ)) := (dats m ρ 0 c).arrAt w cfg0.N

/-- Every device's arrays hold what the run leaves of them. -/
def QC (r : PUnit × MemSt nD τ sig (Elt F)) : Prop :=
  ∀ (c : Dev nD) (w : Fin cfg0.W), r.2.mem ((cfg0.win w).arr.view.loc (c : Thread nD τ)) = finalA m ρ c w

set_option maxRecDepth 8000 in
/-- For any float values and from any memory with all counters at zero: the program on four devices ends, without
    fault, with the computed arrays and with every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingSort

end
-- ==== Proof.SortRef.lean ====
/-
# The reference's sort is the kernel's network

The reference sorts every column of its array by a comparison that, on the extended reals, is `<`. A column sorted
and a column put through the kernel's network are two rearrangements of the same entries and both ascend, so they are
equal.
-/
module

public import proofs.«01_k».proof.Proof.Net
public import proofs.«01_k».proof.Proof.Gen.ReferenceIdeal
public import Idealize.ShloMosaic.Lib.SortFacts
public import Mathlib.Data.List.OfFn
public import Mathlib.Data.List.FinRange

@[expose] public section

noncomputable section

namespace Cert.RingSort

open Cert.KernelIdeal Cert.KernelIdeal.Gen
open Idealize.ShloMosaic Idealize.ShloMosaic.SortNet Idealize.SL.Sem

/-- On the extended reals the reference's comparison is `<`: zero is one number, and no number differs from itself. -/
theorem comparator_eq (l r : Ideal .f32) : Cert.ReferenceIdeal.comparator_f32_d0 (F := Ideal) l r = BitVec.ofBool (decide ((l : EReal) < r)) := by
  have z : ∀ a : Ideal .f32, Scalar.select (FloatOps.cmpf .une a a) (FloatOps.ofBits .f32 0x7FC00000#32 : Ideal .f32)
      (Scalar.select (FloatOps.cmpf .oeq a (FloatOps.ofBits .f32 0x00000000#32 : Ideal .f32)) (FloatOps.ofBits .f32 0x00000000#32) a) = a := by
    intro a
    have h1 : FloatOps.cmpf (F := Ideal) .une a a = 0#1 := by
      show BitVec.ofBool (decide ((a : EReal) ≠ a)) = _
      simp
    rw [h1]
    show (if FloatOps.cmpf (F := Ideal) .oeq a (FloatOps.ofBits .f32 0x00000000#32 : Ideal .f32) = 1 then _ else a) = a
    by_cases h : a = (FloatOps.ofBits .f32 0x00000000#32 : Ideal .f32)
    · rw [h, ite_self]
    · have h2 : FloatOps.cmpf (F := Ideal) .oeq a (FloatOps.ofBits .f32 0x00000000#32 : Ideal .f32) = 0#1 := by
        show BitVec.ofBool (decide (a = _)) = _
        rw [decide_eq_false h]; rfl
      rw [h2]; rfl
  show FloatOps.cmpfTotal (F := Ideal) .lt (Scalar.select _ _ _) (Scalar.select _ _ _) = _
  rw [z l, z r]
  rfl

/-- The comparison asked as a Boolean. -/
theorem comparator_beq (l r : Ideal .f32) : (Cert.ReferenceIdeal.comparator_f32_d0 (F := Ideal) l r == 1#1) = decide ((l : EReal) < r) := by
  rw [comparator_eq]
  by_cases h : (l : EReal) < r
  · rw [decide_eq_true h]; rfl
  · rw [decide_eq_false h]; rfl

/-- A row put into a column's index is that row's index. -/
theorem along_at (i k : Fin 4096) (q : Fin 256) : (at2 i q : S4096x256.Idx).along (0 : Fin 2) k = at2 k q := by
  funext d
  fin_cases d <;> rfl

/-- A column of the reference's sort: the column's entries rearranged by the sort of its positions. -/
theorem col_sort (y : S4096x256.Idx → Ideal .f32) (q : Fin 256) :
    col (Host.sort S4096x256 0 (Cert.ReferenceIdeal.comparator_f32_d0 (F := Ideal)) y) q
      = col y q ∘ sortedFrom (fun k k' : Fin (2 ^ 12) => decide ((col y q k : EReal) < col y q k')) := by
  funext i
  show (Host.sort S4096x256 0 _ y) (at2 (a := 4096) i q) = _
  unfold Host.sort
  rw [dif_pos (by decide : (0 : Nat) < S4096x256.rank)]
  show y ((at2 (a := 4096) i q).along (0 : Fin 2) (sortedFrom (n := 4096) _ i)) = _
  rw [along_at]
  show col y q (sortedFrom (n := 4096) _ i) = col y q (sortedFrom (n := 4096) _ i)
  congr 2
  funext k k'
  rw [comparator_beq]
  exact congrArg₂ (fun a b => decide ((y a : EReal) < y b)) (along_at i k q) (along_at i k' q)

/-- Every column of the reference's sort ascends. -/
theorem sort_monotone {n : Nat} (v : Fin n → EReal) : Monotone (v ∘ sortedFrom (fun k k' => decide (v k < v k'))) := by
  intro i j hij
  rcases lt_or_eq_of_le hij with h | h
  · have := sortedFrom_noInversion (fun k k' => decide (v k < v k')) (fun k k' => decide (v k < v k'))
      (fun a b hab => decide_eq_false (not_lt_of_gt (of_decide_eq_true hab))) (fun _ _ h => h)
      (fun a b c hab hbc => decide_eq_false (not_lt.mpr ((not_lt.mp (of_decide_eq_false hbc)).trans (not_lt.mp (of_decide_eq_false hab))))) i j h
    exact not_lt.mp (of_decide_eq_false this)
  · rw [h]

/-- Two ascending rearrangements of the same entries are equal. -/
theorem ascending_unique {n : Nat} (v : Fin n → EReal) (σ τ : Equiv.Perm (Fin n)) (hσ : Monotone (v ∘ σ)) (hτ : Monotone (v ∘ τ)) :
    v ∘ σ = v ∘ τ := by
  have asc : ∀ f : Fin n → EReal, Monotone f → (List.ofFn f).Pairwise (· ≤ ·) := fun f hf => by
    rw [List.pairwise_ofFn]
    exact fun i j hij => hf (le_of_lt hij)
  exact List.ofFn_injective (List.Perm.eq_of_pairwise (le := (· ≤ ·)) (fun a b _ _ h h' => le_antisymm h h') (asc _ hσ) (asc _ hτ)
    ((Equiv.Perm.ofFn_comp_perm σ v).trans (Equiv.Perm.ofFn_comp_perm τ v).symm))

/-- A column sorted is any ascending rearrangement of it. -/
theorem sorted_eq {n : Nat} (v w : Fin n → EReal) (τ : Equiv.Perm (Fin n)) (hw : w = v ∘ τ) (hm : Monotone w) :
    v ∘ sortedFrom (fun k k' => decide (v k < v k')) = w := by
  subst hw
  exact ascending_unique v (Equiv.ofBijective _ ⟨sortedFrom_injective (fun k k' => decide (v k < v k')),
    sortedFrom_surjective (fun k k' => decide (v k < v k'))⟩) τ (sort_monotone v) hm

/-- The two sorts agree on every column, -/
theorem col_sort_eq (x : Arr Ideal) (q : Fin 256) :
    col (Host.sort S4096x256 0 (Cert.ReferenceIdeal.comparator_f32_d0 (F := Ideal)) (fun j => (x j : EReal))) q = col (network x) q := by
  rw [col_sort]
  obtain ⟨τ, hτ⟩ := network_perm x q
  exact sorted_eq (n := 2 ^ 12) (col x q) (col (network x) q) τ hτ (network_monotone x q)

/-- and so entry by entry. -/
theorem sort_eq_network (x : Arr Ideal) :
    Host.sort S4096x256 0 (Cert.ReferenceIdeal.comparator_f32_d0 (F := Ideal)) (fun j => (x j : EReal)) = fun j => (network x j : EReal) := by
  funext j
  have h0 : (j 0).val < 2 ^ 12 := lt_of_lt_of_eq (show (j 0).val < 4096 from (j 0).isLt) (by norm_num)
  have ej : j = at2 (a := 4096) (⟨(j 0).val, h0⟩ : Fin (2 ^ 12)) (j 1) := by
    funext d
    fin_cases d <;> rfl
  have h := congrFun (col_sort_eq x (j 1)) ⟨(j 0).val, h0⟩
  unfold col at h
  rw [ej]
  exact h

end Cert.RingSort

end
-- ==== Proof.Value.lean ====
/-
# What the run leaves, against the reference

Every device's result is its block of one array: the network's sort of the gathered array. When the devices' arguments
are the blocks of one array, the gathered array is that array, and at the extended reals its sort by the network is
the reference's.
-/
module

public import proofs.«01_k».proof.Proof.Launch
public import proofs.«01_k».proof.Proof.SortRef
public import proofs.«01_k».proof.Proof.Gen.ReferenceIdeal.Run
public import proofs.«01_k».proof.Proof.Gen.Kernel
public import proofs.«01_k».proof.Proof.Gen.KernelIdeal.Points
public import proofs.«01_k».proof.Defs

@[expose] public section

noncomputable section

namespace Cert.RingSort

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## The arrays after the run -/

/-- The argument is unchanged. -/
theorem finalA_arg (c : Dev nD) : finalA m ρ c (0 : Fin 2) = m ((c : Thread nD τ).loc main_arg0) :=
  (dats m ρ 0 c).arrAt_in (0 : Fin 2) rfl _

/-- The result is what the body wrote out. -/
theorem finalA_res (c : Dev nD) : finalA m ρ c (1 : Fin 2) = outAt m ρ c := by
  unfold finalA
  rw [show cfg0.N = t0_0.val + 1 from rfl, (dats m ρ 0 c).arrAt_succ (1 : Fin 2) t0_0, if_pos (flush0_1 t0_0)]
  have hz : (fun a => (win0_1.index (0 : Fin 1)) a * main_v1.ty.shape.size a) = fun _ => 0 :=
    funext fun a => by fin_cases a <;> decide
  exact Memref.write_access_unit_zero_univ (Elt F) main_v1 hz (fun a => by fin_cases a <;> decide) _ _

omit [FloatOps F] in
/-- What a device fetches is its argument. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- An array of 4096 rows is four blocks of 1024. -/
theorem tiles : Layout.Tiles S1024x256 S4096x256 0 4 := by decide

omit [FloatOps F] in
/-- The devices' blocks of one array, gathered, are that array. -/
theorem gath_blocks (X : S4096x256.Idx → Elt F .bf16)
    (h : ∀ c : Dev nD, m ((c : Thread nD τ).loc main_arg0) = Layout.block S1024x256 S4096x256 0 4 c X tiles) :
    gath m ρ = X := by
  funext i
  unfold gath
  rw [xstg_eq, h, Layout.block_apply]
  refine congrArg X (funext fun a => Fin.ext ?_)
  rw [Layout.Tiles.idx_val]
  match a with
  | ⟨0, _⟩ =>
    show (i (0 : Fin 2)).val / 1024 * 1024 + (i (0 : Fin 2)).val % 1024 = (i (0 : Fin 2)).val
    omega
  | ⟨1, _⟩ => rfl

omit [FloatOps F] in
/-- Slot `c` of an array is its block `c`. -/
theorem slot_block (c : Dev nD) (f : (cc0_scratch0 : Ref sig .tc).ty.Contents (Elt F)) :
    (slotM c).view.read (Elt F) f = Layout.block S1024x256 S4096x256 0 4 c f tiles := by
  funext x
  show f ((slotR c).emb x) = f (tiles.idx c x)
  refine congrArg f (funext fun a => Fin.ext ?_)
  rw [Layout.Tiles.idx_val]
  match a with
  | ⟨0, _⟩ =>
    show 1024 * c.val + 1 * (x (0 : Fin 2)).val = c.val * 1024 + (x (0 : Fin 2)).val
    omega
  | ⟨1, _⟩ =>
    show 0 + 1 * (x (1 : Fin 2)).val = (x (1 : Fin 2)).val
    omega

/-- Every device writes out its block of the gathered array sorted, widened. -/
theorem outAt_eq (c : Dev nD) :
    outAt m ρ c = extf .f32 (Layout.block S1024x256 S4096x256 0 4 c (network (gath m ρ)) tiles) bitsLt_bf16_f32 := by
  unfold outAt k0_pay2
  rw [back_zero, slot_block]

/-! ## The claims -/

/-- The run, read at the argument and the result. -/
theorem run_read : θ_run defs (onTc (τ := τ) (main (F := F))) (s₀ m ρ) fun r =>
    (∀ c : Dev nD, r.2.mem ((c : Thread nD τ).loc main_v1) = outAt m ρ c
      ∧ r.2.mem ((c : Thread nD τ).loc main_arg0) = m ((c : Thread nD τ).loc main_arg0))
    ∧ r.2.sem = fun _ => 0 :=
  (θ_run defs _ _).mono (fun _ h => ⟨fun c => ⟨(h.1 c (1 : Fin 2)).trans (finalA_res m ρ c), (h.1 c (0 : Fin 2)).trans (finalA_arg m ρ c)⟩, h.2⟩)
    (run_main m ρ)

/-- The run, read at the argument alone. -/
theorem run_frame : θ_run defs (onTc (τ := τ) (main (F := F))) (s₀ m ρ) fun r =>
    (∀ c : Dev nD, r.2.mem ((c : Thread nD τ).loc main_arg0) = m ((c : Thread nD τ).loc main_arg0)) ∧ r.2.sem = fun _ => 0 :=
  (θ_run defs _ _).mono (fun _ h => ⟨fun c => (h.1 c).2, h.2⟩) (run_read m ρ)

set_option maxRecDepth 65536 in
/-- The two kernels have the same body, -/
theorem table_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- called by the same pipeline. -/
theorem defs_eq : Cert.Kernel.defs (F := F) = Cert.KernelIdeal.defs (F := F) :=
  congrArg (Pipeline.defs Cert.KernelIdeal.pcfgs) table_eq

/-- The kernel on words ends with its arguments unchanged and all counters at zero; -/
theorem frame_kernel : Cert.quiescent_Kernel := fun m ρ _ => by
  rw [defs_eq]
  exact run_frame (F := Bits) m ρ

/-- so does the kernel over the extended reals, -/
theorem frame_ideal : Cert.quiescent_KernelIdeal := fun m ρ _ => run_frame (F := Ideal) m ρ

/-- and the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is its block of the reference's. -/
theorem value : Cert.algebraic_KernelIdeal_ReferenceIdeal := fun m ρ m' ρ' _ hblk => by
  refine ⟨fun j => network (F := Ideal) (m' (((0 : Dev Cert.ReferenceIdeal.nD).tc : Thread Cert.ReferenceIdeal.nD Cert.ReferenceIdeal.τ).loc Cert.ReferenceIdeal.main_arg0)) j, ?_, ?_⟩
  · refine (θ_run Cert.KernelIdeal.defs _ _).mono (fun _ h c => ⟨(h.1 c).1.trans ?_, (h.1 c).2⟩) (run_read (F := Ideal) m ρ)
    rw [outAt_eq, gath_blocks m ρ _ hblk]
    rfl
  · refine (θ_run Cert.ReferenceIdeal.defs _ _).mono (fun _ h => ⟨(h 0).1.trans ?_, (h 0).2⟩) (Cert.ReferenceIdeal.Value.run (F := Ideal) m' ρ')
    exact sort_eq_network _

end Cert.RingSort

end
-- ==== Proof.lean ====
module

public import proofs.«01_k».proof.Defs
public import proofs.«01_k».proof.Proof.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The three frames, the idealization and the value claim. -/
theorem claim : Cert.Claim := ⟨Cert.Kernel.Gen.facts, Cert.KernelIdeal.Gen.facts, Cert.ReferenceIdeal.Gen.facts,
  Cert.RingSort.frame_kernel, Cert.RingSort.frame_ideal, Cert.RingSort.frame_reference, trivial, Cert.RingSort.value⟩

end Cert.Proof

end
